-- ==== Defs.lean ====
def Pre_Kernel [hPre_target_names_rows : Cert.Pre_target_names_rows.Facts] (m : (ℓ : Loc Cert.Kernel.nD Cert.Kernel.τ Cert.Kernel.sig) → Buf (Elt Bits) ℓ) : Prop :=
  ∀ c : Dev Cert.Kernel.nD,
    (Cert.Pre_target_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_target_names_rows : Cert.Pre_target_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_target_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_names_rows [hPre_target_names_rows : Cert.Pre_target_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_target_names_rows : Cert.Pre_target_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_target_names_rows : Cert.Pre_target_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_target_names_rows [hReferenceIdeal : Cert.ReferenceIdeal.Facts] [hPre_target_names_rows : Cert.Pre_target_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_names_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_target_names_rows : Cert.Pre_target_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_target_names_rows : Cert.Pre_target_names_rows.Facts),
    quiescent_Kernel (hKernel := hKernel) (hPre_target_names_rows := hPre_target_names_rows)
    ∧ quiescent_KernelIdeal (hKernelIdeal := hKernelIdeal) (hPre_target_names_rows := hPre_target_names_rows)
    ∧ quiescent_ReferenceIdeal (hReferenceIdeal := hReferenceIdeal)
    ∧ quiescent_ReferenceIdeal_pre_target_names_rows (hReferenceIdeal := hReferenceIdeal) (hPre_target_names_rows := hPre_target_names_rows)
    ∧ preserves_Kernel_KernelIdeal
    ∧ algebraic_KernelIdeal_ReferenceIdeal (hKernelIdeal := hKernelIdeal) (hReferenceIdeal := hReferenceIdeal) (hPre_target_names_rows := hPre_target_names_rows)
-- ==== Pre_target_names_rows.lean ====
abbrev S16384x128 : Shape := ⟨2, ![16384, 128]⟩
abbrev S16384 : Shape := ⟨1, ![16384]⟩
abbrev S100000x128 : Shape := ⟨2, ![100000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S100000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S100000x128 : Shape := ⟨2, ![100000, 128]⟩
abbrev S32x16 : Shape := ⟨2, ![32, 16]⟩
abbrev S512 : Shape := ⟨1, ![512]⟩
abbrev S64x128 : Shape := ⟨2, ![64, 128]⟩
abbrev S16 : Shape := ⟨1, ![16]⟩
abbrev S_ : Shape := ⟨0, ![]⟩
abbrev S64 : Shape := ⟨1, ![64]⟩
abbrev S448 : Shape := ⟨1, ![448]⟩
abbrev S1x16 : Shape := ⟨2, ![1, 16]⟩

abbrev nBuf : Table → Nat
  | .hbm => 12
  | .local .scVector .vmem => 6
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S100000x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .scVector .vmem, ⟨0, _⟩ => ⟨S512, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S16, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c0_i32_2
  let c0_i32_3 : BitVec 32 := 0#32
  ![v5.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c64_i32 : BitVec 32 := 64#32
  let v8 : BitVec 32 := Scalar.addi v2 c64_i32
  ![v8.toNat]
@[reducible] def k0_t1_loop : Scf.Loop 32 :=
  let c0_i32_18 : BitVec 32 := 0#32
  let c4_i32 : BitVec 32 := 4#32
  let v22 : BitVec 32 := Scalar.addi c0_i32_18 c4_i32
  let c1_i32 : BitVec 32 := 1#32
  ⟨c0_i32_18, v22, c1_i32⟩
@[reducible] def k0_t2_loop : Scf.Loop 32 :=
  let c0_i32_29 : BitVec 32 := 0#32
  let c64_i32_30 : BitVec 32 := 64#32
  let v40 : BitVec 32 := Scalar.addi c0_i32_29 c64_i32_30
  let c1_i32_31 : BitVec 32 := 1#32
  ⟨c0_i32_29, v40, c1_i32_31⟩
def k0_off4 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v58 : Index := Scalar.indexCast arg25
  let c0_51 : Index := 0#32
  ![v58.toNat, 0]
def k0_off5 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v67 : Index := Scalar.indexCast arg25
  let c16 : Index := 16#32
  ![v67.toNat, 16]
def k0_off6 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v76 : Index := Scalar.indexCast arg25
  let c32 : Index := 32#32
  ![v76.toNat, 32]
def k0_off7 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v85 : Index := Scalar.indexCast arg25
  let c48 : Index := 48#32
  ![v85.toNat, 48]
def k0_off8 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v94 : Index := Scalar.indexCast arg25
  let c64 : Index := 64#32
  ![v94.toNat, 64]
def k0_off9 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v103 : Index := Scalar.indexCast arg25
  let c80 : Index := 80#32
  ![v103.toNat, 80]
def k0_off10 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v112 : Index := Scalar.indexCast arg25
  let c96 : Index := 96#32
  ![v112.toNat, 96]
def k0_off11 (k0_t2 : Fin k0_t2_loop.trips) : Fin 2 → Nat :=
  let c0_i32_29 : BitVec 32 := 0#32
  let c1_i32_31 : BitVec 32 := 1#32
  let arg25 : BitVec 32 := Scf.iv c0_i32_29 c1_i32_31 k0_t2
  let v121 : Index := Scalar.indexCast arg25
  let c112 : Index := 112#32
  ![v121.toNat, 112]
def k0_cond1 (k0_t1 : Fin k0_t1_loop.trips) : BitVec 1 :=
  let c0_i32_18 : BitVec 32 := 0#32
  let c1_i32 : BitVec 32 := 1#32
  let arg16 : BitVec 32 := Scf.iv c0_i32_18 c1_i32 k0_t1
  let c2_i32_20 : BitVec 32 := 2#32
  let v34 : BitVec 32 := Scalar.muli arg16 c2_i32_20
  let c0_i32_21 : BitVec 32 := 0#32
  let v35 : BitVec 32 := Scalar.addi v34 c0_i32_21
  let c2_i32_33 : BitVec 32 := 2#32
  let v42 : BitVec 32 := Scalar.addi v35 c2_i32_33
  let c8_i32 : BitVec 32 := 8#32
  let v43 : BitVec 1 := Scalar.cmpi .slt v42 c8_i32
  let v44 : BitVec 32 := Scalar.extui v43
  let c0_i32_34 : BitVec 32 := 0#32
  let v45 : BitVec 1 := Scalar.cmpi .ne v44 c0_i32_34
  v45

def k0_off12 (k0_t1 : Fin k0_t1_loop.trips) : Fin 1 → Nat :=
  let c0_i32_18 : BitVec 32 := 0#32
  let c1_i32 : BitVec 32 := 1#32
  let arg16 : BitVec 32 := Scf.iv c0_i32_18 c1_i32 k0_t1
  let c2_i32_20 : BitVec 32 := 2#32
  let v34 : BitVec 32 := Scalar.muli arg16 c2_i32_20
  let c0_i32_21 : BitVec 32 := 0#32
  let v35 : BitVec 32 := Scalar.addi v34 c0_i32_21
  let c2_i32_51 : BitVec 32 := 2#32
  let v58 : BitVec 32 := Scalar.addi v35 c2_i32_51
  let c64_i32_52 : BitVec 32 := 64#32
  let v59 : BitVec 32 := Scalar.muli v58 c64_i32_52
  ![v59.toNat]
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_18 : BitVec 32 := 0#32
  let c1_i32 : BitVec 32 := 1#32
  let arg16 : BitVec 32 := Scf.iv c0_i32_18 c1_i32 k0_t1
  let c2_i32_20 : BitVec 32 := 2#32
  let v34 : BitVec 32 := Scalar.muli arg16 c2_i32_20
  let c0_i32_21 : BitVec 32 := 0#32
  let v35 : BitVec 32 := Scalar.addi v34 c0_i32_21
  let c2_i32_51 : BitVec 32 := 2#32
  let v58 : BitVec 32 := Scalar.addi v35 c2_i32_51
  let c64_i32_55 : BitVec 32 := 64#32
  let v62 : BitVec 32 := Scalar.muli v58 c64_i32_55
  let v63 : BitVec 32 := Scalar.addi v2 v62
  let c0_i32_56 : BitVec 32 := 0#32
  ![v63.toNat, 0]
@[reducible] def k0_t3_loop : Scf.Loop 32 :=
  let c0_i32_44 : BitVec 32 := 0#32
  let c64_i32_45 : BitVec 32 := 64#32
  let v52 : BitVec 32 := Scalar.addi c0_i32_44 c64_i32_45
  let c1_i32_46 : BitVec 32 := 1#32
  ⟨c0_i32_44, v52, c1_i32_46⟩
def k0_off14 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v58 : Index := Scalar.indexCast arg25
  let c0_51 : Index := 0#32
  ![v58.toNat, 0]
def k0_off15 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v67 : Index := Scalar.indexCast arg25
  let c16 : Index := 16#32
  ![v67.toNat, 16]
def k0_off16 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v76 : Index := Scalar.indexCast arg25
  let c32 : Index := 32#32
  ![v76.toNat, 32]
def k0_off17 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v85 : Index := Scalar.indexCast arg25
  let c48 : Index := 48#32
  ![v85.toNat, 48]
def k0_off18 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v94 : Index := Scalar.indexCast arg25
  let c64 : Index := 64#32
  ![v94.toNat, 64]
def k0_off19 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v103 : Index := Scalar.indexCast arg25
  let c80 : Index := 80#32
  ![v103.toNat, 80]
def k0_off20 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v112 : Index := Scalar.indexCast arg25
  let c96 : Index := 96#32
  ![v112.toNat, 96]
def k0_off21 (k0_t3 : Fin k0_t3_loop.trips) : Fin 2 → Nat :=
  let c0_i32_44 : BitVec 32 := 0#32
  let c1_i32_46 : BitVec 32 := 1#32
  let arg25 : BitVec 32 := Scf.iv c0_i32_44 c1_i32_46 k0_t3
  let v121 : Index := Scalar.indexCast arg25
  let c112 : Index := 112#32
  ![v121.toNat, 112]
def k0_cond2 (k0_t1 : Fin k0_t1_loop.trips) : BitVec 1 :=
  let c0_i32_18 : BitVec 32 := 0#32
  let c1_i32 : BitVec 32 := 1#32
  let arg16 : BitVec 32 := Scf.iv c0_i32_18 c1_i32 k0_t1
  let c2_i32_35 : BitVec 32 := 2#32
  let v46 : BitVec 32 := Scalar.muli arg16 c2_i32_35
  let c1_i32_36 : BitVec 32 := 1#32
  let v47 : BitVec 32 := Scalar.addi v46 c1_i32_36
  let c2_i32_48 : BitVec 32 := 2#32
  let v54 : BitVec 32 := Scalar.addi v47 c2_i32_48
  let c8_i32_49 : BitVec 32 := 8#32
  let v55 : BitVec 1 := Scalar.cmpi .slt v54 c8_i32_49
  let v56 : BitVec 32 := Scalar.extui v55
  let c0_i32_50 : BitVec 32 := 0#32
  let v57 : BitVec 1 := Scalar.cmpi .ne v56 c0_i32_50
  v57

def k0_off22 (k0_t1 : Fin k0_t1_loop.trips) : Fin 1 → Nat :=
  let c0_i32_18 : BitVec 32 := 0#32
  let c1_i32 : BitVec 32 := 1#32
  let arg16 : BitVec 32 := Scf.iv c0_i32_18 c1_i32 k0_t1
  let c2_i32_35 : BitVec 32 := 2#32
  let v46 : BitVec 32 := Scalar.muli arg16 c2_i32_35
  let c1_i32_36 : BitVec 32 := 1#32
  let v47 : BitVec 32 := Scalar.addi v46 c1_i32_36
  let c2_i32_51 : BitVec 32 := 2#32
  let v58 : BitVec 32 := Scalar.addi v47 c2_i32_51
  let c64_i32_52 : BitVec 32 := 64#32
  let v59 : BitVec 32 := Scalar.muli v58 c64_i32_52
  ![v59.toNat]
def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_18 : BitVec 32 := 0#32
  let c1_i32 : BitVec 32 := 1#32
  let arg16 : BitVec 32 := Scf.iv c0_i32_18 c1_i32 k0_t1
  let c2_i32_35 : BitVec 32 := 2#32
  let v46 : BitVec 32 := Scalar.muli arg16 c2_i32_35
  let c1_i32_36 : BitVec 32 := 1#32
  let v47 : BitVec 32 := Scalar.addi v46 c1_i32_36
  let c2_i32_51 : BitVec 32 := 2#32
  let v58 : BitVec 32 := Scalar.addi v47 c2_i32_51
  let c64_i32_55 : BitVec 32 := 64#32
  let v62 : BitVec 32 := Scalar.muli v58 c64_i32_55
  let v63 : BitVec 32 := Scalar.addi v2 v62
  let c0_i32_56 : BitVec 32 := 0#32
  ![v63.toNat, 0]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S100000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩

abbrev nD : Nat := 1
abbrev τ : Topo := Topo.v7x

variable {F : FTy → Type} [FloatOps F]
-- ==== Proof.Common.lean ====
/-
  What the kernel's proof shares: the launch as the SparseCore launch theorem takes it, the values every buffer
  holds, and two facts about transfers in flight.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_target_names_rows

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no buffer of a core is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Places in the arrays -/

/-- The index of a rank-one shape at position `n`, wrapped into the shape. -/
def ix1 (s : Shape) (h : ∀ a, 0 < s.size a) (n : ℕ) : s.Idx := fun a => ⟨n % s.size a, Nat.mod_lt _ (h a)⟩

/-- The index of a rank-two shape at row `r` and column `c`, each wrapped into the shape. -/
def ix2 (s : Shape) (h : ∀ a, 0 < s.size a) (r c : ℕ) : s.Idx :=
  fun a => ⟨(if a.val = 0 then r else c) % s.size a, Nat.mod_lt _ (h a)⟩

theorem posF : ∀ a, 0 < S16384x128.size a := by decide
theorem posT : ∀ a, 0 < S16384.size a := by decide
theorem posL : ∀ a, 0 < S16.size a := by decide
theorem posC : ∀ a, 0 < S100000x128.size a := by decide

abbrev ixF (r c : ℕ) : S16384x128.Idx := ix2 S16384x128 posF r c
abbrev ixT (n : ℕ) : S16384.Idx := ix1 S16384 posT n
abbrev ixC (r c : ℕ) : S100000x128.Idx := ix2 S100000x128 posC r c

/-- An index of the features is the one at its two coordinates. -/
theorem ixF_of (j : S16384x128.Idx) {r c : ℕ} (h0 : (j 0).val = r) (h1 : (j 1).val = c) : ixF r c = j := by
  funext a; apply Fin.ext
  match a with
  | 0 => exact (congrArg (· % 16384) h0.symm).trans (Nat.mod_eq_of_lt (j 0).isLt)
  | 1 => exact (congrArg (· % 128) h1.symm).trans (Nat.mod_eq_of_lt (j 1).isLt)

/-- An index of the class centers is the one at its two coordinates. -/
theorem ixC_of (j : S100000x128.Idx) {r c : ℕ} (h0 : (j 0).val = r) (h1 : (j 1).val = c) : ixC r c = j := by
  funext a; apply Fin.ext
  match a with
  | 0 => exact (congrArg (· % 100000) h0.symm).trans (Nat.mod_eq_of_lt (j 0).isLt)
  | 1 => exact (congrArg (· % 128) h1.symm).trans (Nat.mod_eq_of_lt (j 1).isLt)

/-- An index of the targets is the one at its coordinate. -/
theorem ixT_of (j : S16384.Idx) {n : ℕ} (h0 : (j 0).val = n) : ixT n = j := by
  funext a; apply Fin.ext
  match a with
  | 0 => exact (congrArg (· % 16384) h0.symm).trans (Nat.mod_eq_of_lt (j 0).isLt)

/-! ## What the buffers hold

`fe`, `tg` and `ce` are the features, the targets and the class centers; `b` is the first sample of a tile. -/

section Values

variable (fe : S16384x128.Idx → F .f32) (tg : S16384.Idx → BitVec 32) (ce : S100000x128.Idx → F .f32) (b : ℕ)

/-- The class sample `n` names. -/
def row (n : ℕ) : ℕ := (tg (ixT n)).toNat

/-- The tile's 512 targets. -/
def iB : S512.Idx → BitVec 32 := fun j => tg (ixT (b + (j 0).val))

/-- Chunk `n`'s 64 gathered class centers. -/
def gB (n : ℕ) : S64x128.Idx → F .f32 := fun j => ce (ixC (row tg (b + 64 * n + (j 0).val)) (j 1).val)

/-- Chunk `n`'s 64 feature rows. -/
def fB (n : ℕ) : S64x128.Idx → F .f32 := fun j => fe (ixF (b + 64 * n + (j 0).val) (j 1).val)

variable [FloatOps F]

/-- The sixteen differences of sample `n` at group `k` of sixteen columns. -/
def dif (n k : ℕ) : FVec F S16 .f32 :=
  subf (fun l => ce (ixC (row tg n) (16 * k + (l 0).val))) (fun l => fe (ixF n (16 * k + (l 0).val)))

/-- The zero vector the accumulators start from. -/
def zero16 : FVec F S16 .f32 := broadcast S16 (Scalar.ofBits .f32 0x00000000#32)

/-- Accumulator `k` after the tile's first `n` samples. -/
def acc (k : ℕ) : ℕ → FVec F S16 .f32
  | 0 => zero16
  | n + 1 => addf (acc k n) (mulf (dif fe tg ce (b + n) k) (dif fe tg ce (b + n) k))

abbrev Acc8 (F : FTy → Type) : Type :=
  FVec F S16 .f32 × FVec F S16 .f32 × FVec F S16 .f32 × FVec F S16 .f32 × FVec F S16 .f32 × FVec F S16 .f32
    × FVec F S16 .f32 × FVec F S16 .f32

/-- The eight accumulators after the tile's first `n` samples. -/
def acc8 (n : ℕ) : Acc8 F :=
  (acc fe tg ce b 0 n, acc fe tg ce b 1 n, acc fe tg ce b 2 n, acc fe tg ce b 3 n, acc fe tg ce b 4 n, acc fe tg ce b 5 n,
    acc fe tg ce b 6 n, acc fe tg ce b 7 n)

/-- The tile's sixteen partial sums. -/
def part : FVec F S16 .f32 :=
  k0_pay9 (acc fe tg ce b 0 512) (acc fe tg ce b 1 512) (acc fe tg ce b 2 512) (acc fe tg ce b 3 512) (acc fe tg ce b 4 512)
    (acc fe tg ce b 5 512) (acc fe tg ce b 6 512) (acc fe tg ce b 7 512)

/-- The array of partial sums: row `w` is the partial sums of the tile whose first sample is `512 w`. -/
def outB : S32x16.Idx → F .f32 := fun j => part fe tg ce (512 * (j 0).val) (ix1 S16 posL (j 1).val)

end Values

/-! ## Transfers in flight -/

/-- What a transfer in flight will deliver can be told to come with a resource held beside it. -/
theorem flight_beside {c : Thread nD τ} {sm : SemLoc sig} {ι : HIx 1} {N : ℕ} {A B : sProp 𝕄} :
    iprop(Transfers.Flight countersEmb c sm ι N A ∗ B) ⊢ (Transfers.Flight countersEmb c sm ι N iprop(A ∗ B) : sProp 𝕄) := by
  unfold Transfers.Flight
  iintro ⟨⟨⟨%R, HR, %hcap, %hpeek⟩, Hcred⟩, HB⟩
  isplitl [HR HB]
  · iexists iprop(R ∗ B)
    isplitl [HR HB]; · isplitl [HR] <;> iassumption
    isplit
    · ipureintro
      intro k
      refine BIBase.Entails.trans ?_ (hcap k)
      iintro ⟨⟨HR, HB⟩, Hk⟩
      isplitl [HR]; · iexact HR
      iintro ⟨Hv, HA⟩
      iapply Hk
      isplitl [Hv]; · iexact Hv
      isplitl [HA] <;> iassumption
    · ipureintro
      intro k
      refine BIBase.Entails.trans ?_ (hpeek k)
      iintro ⟨⟨HR, HB⟩, Hk⟩
      isplitl [HR]; · iexact HR
      iintro HR
      iapply Hk
      isplitl [HR] <;> iassumption
  · iexact Hcred

/-- A transfer in flight, with a resource held beside it, delivers what the two together entail. -/
theorem flight_with {c : Thread nD τ} {sm : SemLoc sig} {ι : HIx 1} {N : ℕ} {A B C : sProp 𝕄} (h : iprop(A ∗ B) ⊢ C) :
    iprop(Transfers.Flight countersEmb c sm ι N A ∗ B) ⊢ (Transfers.Flight countersEmb c sm ι N C : sProp 𝕄) :=
  flight_beside.trans (Transfers.Flight_mono countersEmb c h)

end Cert.Proof.CenterLoss

end
-- ==== Proof.Values.lean ====
/-
  The values the tile's loads, copies and gathers see, as the closed forms of Common: a trip's lanes, a chunk's
  gathered class centers and feature rows, the tile's targets, and the tile's row of partial sums.
-/
module

public import proofs.«01_k».proof.Proof.Common
public import Idealize.ShloMosaic.Lib.Pipeline.Value

@[expose] public section

noncomputable section

namespace Cert.Proof.CenterLoss

open Cert.KernelIdeal Cert.KernelIdeal.Gen
open Idealize.ShloMosaic

variable {F : FTy → Type}
variable (fe : S16384x128.Idx → F .f32) (tg : S16384.Idx → BitVec 32) (ce : S100000x128.Idx → F .f32) (b : ℕ)

/-! ## One trip's lanes -/

/-- Sixteen lanes read from row `t` of a chunk's buffer, from column `16 k` on. -/
theorem lanes {α : Type} (g : S64x128.Idx → α) (t k : ℕ) {off : Fin 2 → ℕ} (hoff : off = ![t, 16 * k])
    (inb : ∀ a, off a + S1x16.size a ≤ S64x128.size a) (l : S16.Idx) :
    ∃ j : S64x128.Idx, (j 0).val = t ∧ (j 1).val = 16 * k + (l 0).val ∧
      shapeCast S16 (fun x : S1x16.Idx => g ((Rect.unit (s := S64x128) off S1x16.size inb).toLoadRect.idx x)) shapeCasts_S1x16_S16 l = g j := by
  refine ⟨(Rect.unit (s := S64x128) off S1x16.size inb).toLoadRect.idx (Fin.cons ⟨0, Nat.one_pos⟩ l), ?_, ?_, ?_⟩
  · subst hoff; show t + 1 * 0 = t; omega
  · subst hoff; show 16 * k + 1 * (l 0).val = _; omega
  · exact shapeCast_dropUnit_apply ![16] _ _ l

/-- The lanes of a chunk's class centers. -/
theorem lanes_g (n t k : ℕ) {off : Fin 2 → ℕ} (hoff : off = ![t, 16 * k])
    (inb : ∀ a, off a + S1x16.size a ≤ S64x128.size a) :
    shapeCast S16 (fun x : S1x16.Idx => gB tg ce b n ((Rect.unit (s := S64x128) off S1x16.size inb).toLoadRect.idx x)) shapeCasts_S1x16_S16
      = fun l => ce (ixC (row tg (b + (64 * n + t))) (16 * k + (l 0).val)) := by
  funext l
  obtain ⟨j, h0, h1, e⟩ := lanes (gB tg ce b n) t k hoff inb l
  rw [e]; unfold gB; rw [h0, h1, Nat.add_assoc]

/-- The lanes of a chunk's feature rows. -/
theorem lanes_f (n t k : ℕ) {off : Fin 2 → ℕ} (hoff : off = ![t, 16 * k])
    (inb : ∀ a, off a + S1x16.size a ≤ S64x128.size a) :
    shapeCast S16 (fun x : S1x16.Idx => fB fe b n ((Rect.unit (s := S64x128) off S1x16.size inb).toLoadRect.idx x)) shapeCasts_S1x16_S16
      = fun l => fe (ixF (b + (64 * n + t)) (16 * k + (l 0).val)) := by
  funext l
  obtain ⟨j, h0, h1, e⟩ := lanes (fB fe b n) t k hoff inb l
  rw [e]; unfold fB; rw [h0, h1, Nat.add_assoc]

/-- One accumulator's step at sample `64 n + t` of the tile. -/
theorem acc_step [FloatOps F] (n t k : ℕ) {off : Fin 2 → ℕ} (hoff : off = ![t, 16 * k])
    (inb : ∀ a, off a + S1x16.size a ≤ S64x128.size a) :
    addf (acc fe tg ce b k (64 * n + t))
        (mulf
          (subf
            (shapeCast S16 (fun x : S1x16.Idx => gB tg ce b n ((Rect.unit (s := S64x128) off S1x16.size inb).toLoadRect.idx x)) shapeCasts_S1x16_S16)
            (shapeCast S16 (fun x : S1x16.Idx => fB fe b n ((Rect.unit (s := S64x128) off S1x16.size inb).toLoadRect.idx x)) shapeCasts_S1x16_S16))
          (subf
            (shapeCast S16 (fun x : S1x16.Idx => gB tg ce b n ((Rect.unit (s := S64x128) off S1x16.size inb).toLoadRect.idx x)) shapeCasts_S1x16_S16)
            (shapeCast S16 (fun x : S1x16.Idx => fB fe b n ((Rect.unit (s := S64x128) off S1x16.size inb).toLoadRect.idx x)) shapeCasts_S1x16_S16)))
      = acc fe tg ce b k (64 * n + t + 1) := by
  rw [lanes_g tg ce b n t k hoff inb, lanes_f fe b n t k hoff inb]; rfl

/-! ## The copies and the gathers -/

/-- A chunk of feature rows, read from the features. -/
theorem read_feat (n : ℕ) {off : Fin 2 → ℕ} (hoff : off = ![b + 64 * n, 0])
    (inb : ∀ a, off a + S64x128.size a ≤ S16384x128.size a) :
    (((Memref.whole main_arg0_scv).slice (Rect.unit (s := S16384x128) off S64x128.size inb) (fun _ => rfl)).view.read (Elt F) fe
      : S64x128.Idx → F .f32) = fB fe b n := by
  funext j
  refine (congrArg fe (ixF_of _ ?_ ?_).symm : fe ((Rect.unit (s := S16384x128) off S64x128.size inb).emb j) = fe (ixF _ _))
  · rw [Rect.emb_apply]; subst hoff; show b + 64 * n + 1 * (j 0).val = _; omega
  · rw [Rect.emb_apply]; subst hoff; show 0 + 1 * (j 1).val = _; omega

/-- A slice of the tile's list of targets. -/
theorem read_list (p : ℕ) {off : Fin 1 → ℕ} (hoff : off = ![p]) (sz : Fin 1 → ℕ)
    (inb : ∀ a, off a + sz a ≤ S512.size a) (j : (Rect.unit (s := S512) off sz inb).shape.Idx) :
    ((Memref.whole cc0_scratch0).slice (Rect.unit (s := S512) off sz inb) (fun _ => rfl)).view.read (Elt F) (iB tg b) j
      = tg (ixT (b + (p + (j 0).val))) := by
  show tg (ixT (b + ((Rect.unit (s := S512) off sz inb).emb j 0).val)) = _
  rw [Rect.emb_apply]; subst hoff
  exact congrArg (fun n => tg (ixT (b + n))) (show p + 1 * (j 0).val = p + (j 0).val by omega)

/-- The words a gather's list holds name rows of the class centers. -/
theorem list_lt (h : ∀ j, (tg j).toNat < 100000) {off : Fin 1 → ℕ} (sz : Fin 1 → ℕ) (inb : ∀ a, off a + sz a ≤ S512.size a) :
    ∀ x, (((Memref.whole cc0_scratch0).slice (Rect.unit (s := S512) off sz inb) (fun _ => rfl)).view.read (Elt F) (iB tg b) x).toNat
      < S100000x128.size gathers_S100000x128_S64x128.axis := fun _ => h _

/-- What the gather of chunk `n` delivers: the class centers its samples name. -/
theorem gather_eq (h : ∀ j, (tg j).toNat < 100000) (n : ℕ) {off : Fin 1 → ℕ} (hoff : off = ![64 * n])
    (inb : ∀ a, off a + S64.size a ≤ S512.size a) (hn hin) :
    (SparseCore.gatherPayload gathers_S100000x128_S64x128
        (((Memref.whole main_arg2_scv).slice (Rect.unit (s := S100000x128) ![0, 0] S100000x128.size inb_S100000x128_S100000x128_0_0) (fun _ => rfl)).view.read (Elt F) ce)
        (SparseCore.rows (((Memref.whole cc0_scratch0).slice (Rect.unit (s := S512) off S64.size inb) (fun _ => rfl)).view.read (Elt F) (iB tg b)) hn hin)
      : S64x128.Idx → F .f32) = gB tg ce b n := by
  funext j
  have hr : ∀ k, (SparseCore.rows (((Memref.whole cc0_scratch0).slice (Rect.unit (s := S512) off S64.size inb) (fun _ => rfl)).view.read (Elt F) (iB tg b))
      hn hin k).val = row tg (b + 64 * n + k.val) := by
    intro k
    have e : ∀ y : Fin S64.numel, ((S64.rowMajor.symm y) 0).val = y.val := fun y =>
      (Shape.rowMajor_val_one (S64.rowMajor.symm y)).symm.trans (congrArg Fin.val (Equiv.apply_symm_apply _ _))
    unfold SparseCore.rows
    show BitVec.toNat _ = _
    rw [read_list (F := F) tg b (64 * n) hoff S64.size inb]
    unfold row; rw [Nat.add_assoc]
    exact congrArg (fun p => (tg (ixT (b + (64 * n + p)))).toNat) (e (Fin.cast hn.symm k))
  refine (congrArg ce (ixC_of _ ?_ ?_).symm :
    ce ((Rect.unit (s := S100000x128) ![0, 0] S100000x128.size inb_S100000x128_S100000x128_0_0).emb
      (gathers_S100000x128_S64x128.idx _ j)) = ce (ixC _ _))
  · rw [Rect.emb_apply]
    show 0 + 1 * (gathers_S100000x128_S64x128.idx _ j gathers_S100000x128_S64x128.axis).val = _
    rw [Shape.Gathers.idx_axis, hr, Nat.zero_add, Nat.one_mul]; rfl
  · rw [Rect.emb_apply]
    show 0 + 1 * (gathers_S100000x128_S64x128.idx _ j 1).val = _
    rw [Shape.Gathers.idx_of_ne _ _ _ 1 (by decide)]
    show 0 + 1 * (j 1).val = _; omega

/-- A part of the list of targets, as the copy from the targets lands it. -/
theorem list_landed (p : ℕ) {n : ℕ} {off : Fin 1 → ℕ} (hoff : off = ![p]) {off' : Fin 1 → ℕ} (hoff' : off' = ![b + p])
    (inb : ∀ a, off a + (![n] : Fin 1 → ℕ) a ≤ S512.size a) (inb' : ∀ a, off' a + (![n] : Fin 1 → ℕ) a ≤ S16384.size a)
    (f : S512.Idx → BitVec 32) :
    ∀ i ∈ ((Memref.whole cc0_scratch0).slice (Rect.unit (s := S512) off ![n] inb) (fun _ => rfl)).view.set,
      View.write (Elt F) ((Memref.whole cc0_scratch0).slice (Rect.unit (s := S512) off ![n] inb) (fun _ => rfl)).view f
          (((Memref.whole main_arg1_scv).slice (Rect.unit (s := S16384) off' ![n] inb') (fun _ => rfl)).view.read (Elt F) tg) Finset.univ i
        = iB tg b i := by
  intro i hi
  obtain ⟨x, -, rfl⟩ := Finset.mem_map.mp hi
  rw [View.write_emb_of_mem _ _ (Finset.mem_univ x)]
  have e1 : (((Rect.unit (s := S16384) off' ![n] inb').emb x) 0).val = b + p + (x 0).val := by
    rw [Rect.emb_apply]; subst hoff'; show b + p + 1 * (x 0).val = _; omega
  have e2 : (((Rect.unit (s := S512) off ![n] inb).emb x) 0).val = p + (x 0).val := by
    rw [Rect.emb_apply]; subst hoff; show p + 1 * (x 0).val = _; omega
  show tg ((Rect.unit (s := S16384) off' ![n] inb').emb x) = tg (ixT (b + (((Rect.unit (s := S512) off ![n] inb).emb x) 0).val))
  rw [e2, ← Nat.add_assoc]
  exact congrArg tg (ixT_of _ e1).symm

/-- The tile's row of the partial sums, as the copy out lands it. -/
theorem out_landed [FloatOps F] (w : ℕ) (hb : b = 512 * w) {off : Fin 2 → ℕ} (hoff : off = ![w, 0])
    (inb : ∀ a, off a + S1x16.size a ≤ S32x16.size a) (f : S32x16.Idx → F .f32) :
    ∀ i ∈ (((Memref.whole main_v0_scv).slice (Rect.unit (s := S32x16) off S1x16.size inb) (fun _ => rfl)).squeeze S16 squeezes_S1x16_S16).view.set,
      View.write (Elt F) (((Memref.whole main_v0_scv).slice (Rect.unit (s := S32x16) off S1x16.size inb) (fun _ => rfl)).squeeze S16 squeezes_S1x16_S16).view f
          (part fe tg ce b) Finset.univ i
        = outB fe tg ce i := by
  intro i hi
  obtain ⟨x, -, rfl⟩ := Finset.mem_map.mp hi
  rw [View.write_emb_of_mem _ _ (Finset.mem_univ x)]
  have ex : Shape.reshapeEquiv squeezes_S1x16_S16.numel_eq x = (Fin.cons ⟨0, Nat.one_pos⟩ x : S1x16.Idx) :=
    Shape.reshapeEquiv_cons_one (d := ![16]) _ x
  have e0 : ∀ y : S1x16.Idx, y = Fin.cons ⟨0, Nat.one_pos⟩ x →
      (((Rect.unit (s := S32x16) off S1x16.size inb).emb y) 0).val = w ∧ (((Rect.unit (s := S32x16) off S1x16.size inb).emb y) 1).val = (x 0).val := by
    rintro y rfl
    subst hoff
    constructor
    · rw [Rect.emb_apply]; show w + 1 * 0 = w; omega
    · rw [Rect.emb_apply]; show 0 + 1 * (x 0).val = _; omega
  have e := e0 _ ex
  show part fe tg ce b x = part fe tg ce (512 * (((Rect.unit (s := S32x16) off S1x16.size inb).emb (Shape.reshapeEquiv squeezes_S1x16_S16.numel_eq x)) 0).val)
    (ix1 S16 posL (((Rect.unit (s := S32x16) off S1x16.size inb).emb (Shape.reshapeEquiv squeezes_S1x16_S16.numel_eq x)) 1).val)
  rw [e.1, e.2, ← hb]
  congr 1
  funext a; apply Fin.ext
  match a with
  | 0 => exact (Nat.mod_eq_of_lt (x 0).isLt).symm

end Cert.Proof.CenterLoss

end
-- ==== Proof.Inner.lean ====
/-
  The loop over a chunk's 64 samples, for each of the two buffer pairs: from the accumulators after `64 n` samples to
  those after `64 n + 64`, the buffers kept.
-/
module

public import proofs.«01_k».proof.Proof.Values

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

variable (fe : S16384x128.Idx → F .f32) (tg : S16384.Idx → BitVec 32) (ce : S100000x128.Idx → F .f32) (b : ℕ)

theorem trips2 : k0_t2_loop.trips = 64 := by decide
theorem trips3 : k0_t3_loop.trips = 64 := by decide
theorem trips1 : k0_t1_loop.trips = 4 := by decide

set_option maxHeartbeats 4000000 in
/-- The loop over the chunk in the first pair of buffers. -/
theorem inner0 (n : ℕ) (v2 c0 c1 : BitVec 32) (t1 : Fin k0_t1_loop.trips) (a1 a2 a3 a4 a5 a6 a7 a8 : FVec F S16 .f32)
    {β : Type} (kk : Acc8 F → Prog (TpuEff nD τ sig (Elt F) Λ₀ (.scVector (cV L) (jV L))) β) (Q : β → sProp 𝕄) :
    iprop(((Memref.whole cc0_scratch1).view.loc (V d (cV L) (jV L)) ↦{fullShare} gB tg ce b n)
        ∗ ((Memref.whole cc0_scratch3).view.loc (V d (cV L) (jV L)) ↦{fullShare} fB fe b n)
        ∗ (iprop(((Memref.whole cc0_scratch1).view.loc (V d (cV L) (jV L)) ↦{fullShare} gB tg ce b n)
            ∗ ((Memref.whole cc0_scratch3).view.loc (V d (cV L) (jV L)) ↦{fullShare} fB fe b n))
          -∗ wp frame (wpE (defs₀ (F := F)) 𝒱₀ (V d (cV L) (jV L)) none) Set.univ (kk (acc8 fe tg ce b (64 * n + 64))) Q))
      ⊢ wp frame (wpE (defs₀ (F := F)) 𝒱₀ (V d (cV L) (jV L)) none) Set.univ
          (Scf.Loop.for k0_t2_loop k0_t2_ok (acc8 fe tg ce b (64 * n))
            (k0_t2_body L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2
              v2 c0 c1 t1 a1 a2 a3 a4 a5 a6 a7 a8) >>= kk) Q := by
  iintro ⟨Hg, Hf, HQ⟩
  sl_for (fun (t : ℕ) (a : Acc8 F) => iprop(⌜a = acc8 fe tg ce b (64 * n + t)⌝
      ∗ ((Memref.whole cc0_scratch1).view.loc (V d (cV L) (jV L)) ↦{fullShare} gB tg ce b n)
      ∗ ((Memref.whole cc0_scratch3).view.loc (V d (cV L) (jV L)) ↦{fullShare} fB fe b n))) $$ [Hg Hf]
  · intro k a
    iintro ⟨%ha, Hg, Hf⟩
    subst ha
    unfold inner0.sl.prog.body_1 acc8
    sl_exec
    sl_step
    isplitr
    · ipureintro
      rw [← Nat.add_assoc]
      refine Prod.ext ?_ (Prod.ext ?_ (Prod.ext ?_ (Prod.ext ?_ (Prod.ext ?_ (Prod.ext ?_ (Prod.ext ?_ ?_))))))
      · exact acc_step fe tg ce b n k 0 (k0_off4_eq k) _
      · exact acc_step fe tg ce b n k 1 (k0_off5_eq k) _
      · exact acc_step fe tg ce b n k 2 (k0_off6_eq k) _
      · exact acc_step fe tg ce b n k 3 (k0_off7_eq k) _
      · exact acc_step fe tg ce b n k 4 (k0_off8_eq k) _
      · exact acc_step fe tg ce b n k 5 (k0_off9_eq k) _
      · exact acc_step fe tg ce b n k 6 (k0_off10_eq k) _
      · exact acc_step fe tg ce b n k 7 (k0_off11_eq k) _
    isplitl [Hg] <;> iassumption
  · isplitr; · ipureintro; rfl
    isplitl [Hg] <;> iassumption
  · iintro %a ⟨%ha, Hg, Hf⟩
    rw [show a = acc8 fe tg ce b (64 * n + 64) from ha.trans (congrArg (fun t => acc8 fe tg ce b (64 * n + t)) trips2)]
    iapply HQ
    isplitl [Hg] <;> iassumption

set_option maxHeartbeats 4000000 in
/-- The loop over the chunk in the second pair of buffers. -/
theorem inner1 (n : ℕ) (v2 c0 c1 : BitVec 32) (t1 : Fin k0_t1_loop.trips) (a1 a2 a3 a4 a5 a6 a7 a8 : FVec F S16 .f32)
    {β : Type} (kk : Acc8 F → Prog (TpuEff nD τ sig (Elt F) Λ₀ (.scVector (cV L) (jV L))) β) (Q : β → sProp 𝕄) :
    iprop(((Memref.whole cc0_scratch2).view.loc (V d (cV L) (jV L)) ↦{fullShare} gB tg ce b n)
        ∗ ((Memref.whole cc0_scratch4).view.loc (V d (cV L) (jV L)) ↦{fullShare} fB fe b n)
        ∗ (iprop(((Memref.whole cc0_scratch2).view.loc (V d (cV L) (jV L)) ↦{fullShare} gB tg ce b n)
            ∗ ((Memref.whole cc0_scratch4).view.loc (V d (cV L) (jV L)) ↦{fullShare} fB fe b n))
          -∗ wp frame (wpE (defs₀ (F := F)) 𝒱₀ (V d (cV L) (jV L)) none) Set.univ (kk (acc8 fe tg ce b (64 * n + 64))) Q))
      ⊢ wp frame (wpE (defs₀ (F := F)) 𝒱₀ (V d (cV L) (jV L)) none) Set.univ
          (Scf.Loop.for k0_t3_loop k0_t3_ok (acc8 fe tg ce b (64 * n))
            (k0_t3_body L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2
              v2 c0 c1 t1 a1 a2 a3 a4 a5 a6 a7 a8) >>= kk) Q := by
  iintro ⟨Hg, Hf, HQ⟩
  sl_for (fun (t : ℕ) (a : Acc8 F) => iprop(⌜a = acc8 fe tg ce b (64 * n + t)⌝
      ∗ ((Memref.whole cc0_scratch2).view.loc (V d (cV L) (jV L)) ↦{fullShare} gB tg ce b n)
      ∗ ((Memref.whole cc0_scratch4).view.loc (V d (cV L) (jV L)) ↦{fullShare} fB fe b n))) $$ [Hg Hf]
  · intro k a
    iintro ⟨%ha, Hg, Hf⟩
    subst ha
    unfold inner1.sl.prog.body_1 acc8
    sl_exec
    sl_step
    isplitr
    · ipureintro
      rw [← Nat.add_assoc]
      refine Prod.ext ?_ (Prod.ext ?_ (Prod.ext ?_ (Prod.ext ?_ (Prod.ext ?_ (Prod.ext ?_ (Prod.ext ?_ ?_))))))
      · exact acc_step fe tg ce b n k 0 (k0_off14_eq k) _
      · exact acc_step fe tg ce b n k 1 (k0_off15_eq k) _
      · exact acc_step fe tg ce b n k 2 (k0_off16_eq k) _
      · exact acc_step fe tg ce b n k 3 (k0_off17_eq k) _
      · exact acc_step fe tg ce b n k 4 (k0_off18_eq k) _
      · exact acc_step fe tg ce b n k 5 (k0_off19_eq k) _
      · exact acc_step fe tg ce b n k 6 (k0_off20_eq k) _
      · exact acc_step fe tg ce b n k 7 (k0_off21_eq k) _
    isplitl [Hg] <;> iassumption
  · isplitr; · ipureintro; rfl
    isplitl [Hg] <;> iassumption
  · iintro %a ⟨%ha, Hg, Hf⟩
    rw [show a = acc8 fe tg ce b (64 * n + 64) from ha.trans (congrArg (fun t => acc8 fe tg ce b (64 * n + t)) trips3)]
    iapply HQ
    isplitl [Hg] <;> iassumption

end Cert.Proof.CenterLoss

end
-- ==== Proof.Issue.lean ====
/-
  Starting the transfers of one chunk: the gather of its class centers and the copy of its feature rows, each with
  what it will deliver in closed form.
-/
module

public import proofs.«01_k».proof.Proof.Inner

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (fe : S16384x128.Idx → F .f32) (tg : S16384.Idx → BitVec 32) (ce : S100000x128.Idx → F .f32) (b : ℕ)

/-- The indexed array of every gather: all of the class centers. -/
abbrev cAll : Memref sig .scVector .hbm S100000x128 .f32 :=
  (Memref.whole main_arg2_scv).slice (Rect.unit (s := S100000x128) ![0, 0] S100000x128.size inb_S100000x128_S100000x128_0_0) (fun _ => rfl)

/-- Sixty-four of the tile's targets. -/
abbrev lst {off : Fin 1 → ℕ} (inb : ∀ a, off a + S64.size a ≤ S512.size a) : Memref sig .scVector .vmem S64 .i32 :=
  (Memref.whole cc0_scratch0).slice (Rect.unit (s := S512) off S64.size inb) (fun _ => rfl)

/-- Sixty-four rows of the features. -/
abbrev rowsF {off : Fin 2 → ℕ} (inb : ∀ a, off a + S64x128.size a ≤ S16384x128.size a) : Memref sig .scVector .hbm S64x128 .f32 :=
  (Memref.whole main_arg0_scv).slice (Rect.unit (s := S16384x128) off S64x128.size inb) (fun _ => rfl)

/-- The gather of chunk `n` into `dst`: in flight, it delivers the class centers the chunk's samples name and the
    shares it read from. -/
theorem gather_issue (htg : ∀ j, (tg j).toNat < 100000) (n : ℕ) (dst : Memref sig .scVector .vmem S64x128 .f32) (sem : DmaSem sig)
    (g' : Buf (Elt F) (dst.view.loc (V d (cV L) (jV L)))) (hset : dst.view.set = Finset.univ)
    (hw : ∀ f, dst.view.write (Elt F) f (gB tg ce b n) Finset.univ = g')
    (hN : ∀ h : S100000x128.Gathers 0 S64x128,
      ∑ j, (dst.slice (S64x128.rowRect h.axis' j) (S64x128.stride_rowRect h.axis' j)).view.dmaCredit = dst.view.dmaCredit)
    {off : Fin 1 → ℕ} (hoff : off = ![64 * n]) (inb : ∀ a, off a + S64.size a ≤ S512.size a)
    {I : Finset S512.Idx} (hI : (lst inb).view.set ⊆ I) (qc qi : PosShare TreeShare) (fd : Buf (Elt F) (dst.view.loc (V d (cV L) (jV L))))
    {hsrc : cAll.view.WordExact} {hr : S100000x128.StreamRows 0}
    {β : Type} (k : PUnit → Prog (TpuEff nD τ sig (Elt F) Λ₀ (.scVector (cV L) (jV L))) β) (Q : β → sProp 𝕄) :
    iprop((dst.view.loc (V d (cV L) (jV L)) ↦{fullShare} fd)
        ∗ ((Memref.whole main_arg2_scv).view.loc (V d (cV L) (jV L)) ↦{qc} ce)
        ∗ ((Memref.whole cc0_scratch0).view.loc (V d (cV L) (jV L)) ↦[I]{qi} iB tg b)
        ∗ semVal (V d (cV L) (jV L), SemLoc.dma sem) 0
        ∗ (Transfers.Flight countersEmb (V d (cV L) (jV L)) (.dma sem) (default : HIx 1) dst.view.dmaCredit
              iprop((dst.view.loc (V d (cV L) (jV L)) ↦{fullShare} g')
                ∗ ((Memref.whole main_arg2_scv).view.loc (V d (cV L) (jV L)) ↦{qc} ce)
                ∗ ((Memref.whole cc0_scratch0).view.loc (V d (cV L) (jV L)) ↦[I]{qi} iB tg b))
            -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (SparseCore.enqueueIndirectGather rfl cAll dst gathers_S100000x128_S64x128 (lst inb) rfl sem hsrc rfl (Or.inl rfl) hr >>= k) Q := by
  have hn : S64.numel = S64x128.size gathers_S100000x128_S64x128.axis' := rfl
  have hd : dst.view.write (Elt F) fd (SparseCore.gatherPayload gathers_S100000x128_S64x128 (cAll.view.read (Elt F) ce)
      (SparseCore.rows ((lst inb).view.read (Elt F) (iB tg b)) hn (list_lt (F := F) tg b htg S64.size inb))) Finset.univ = g' :=
    (congrArg (fun w => dst.view.write (Elt F) fd w Finset.univ) (gather_eq tg ce b htg n hoff inb hn _)).trans (hw fd)
  iintro ⟨Hd, Hc, Hi, Hsem, Hk⟩
  ihave Hc2 := (pointsTo_split_subset (q := qc) (f := ce) (S := Finset.univ) (Finset.subset_univ cAll.view.set)).1 $$ Hc
  icases Hc2 with ⟨Hc, Hcr⟩
  ihave Hi2 := (pointsTo_split_subset (q := qi) (f := iB tg b) (S := I) hI).1 $$ Hi
  icases Hi2 with ⟨Hi, Hir⟩
  ihave Hd2 := (Entails.of_eq (show (dst.view.loc (V d (cV L) (jV L)) ↦{fullShare} fd : sProp 𝕄)
      = dst.view.loc (V d (cV L) (jV L)) ↦[dst.view.set]{fullShare} fd by rw [hset])) $$ Hd
  iapply (SparseCore.wp_indirectGatherLocal countersEmb 𝒱₀ (V d (cV L) (jV L)) none (hg := gathers_S100000x128_S64x128) (default : HIx 1)
      dst.view.dmaCredit (hN _) (by decide) (list_lt (F := F) tg b htg S64.size inb)) $$ [Hd2 Hc Hi Hsem]
  · isplitl [Hc]; · iexact Hc
    isplitl [Hd2]; · iexact Hd2
    isplitl [Hi]; · iexact Hi
    iexact Hsem
  iintro Hfl
  iapply Hk
  iapply (flight_with (A := iprop((dst.view.loc (V d (cV L) (jV L)) ↦[dst.view.set]{fullShare}
        (dst.view.write (Elt F) fd (SparseCore.gatherPayload gathers_S100000x128_S64x128 (cAll.view.read (Elt F) ce)
          (SparseCore.rows ((lst inb).view.read (Elt F) (iB tg b)) hn (list_lt (F := F) tg b htg S64.size inb))) Finset.univ))
        ∗ (cAll.view.loc (V d (cV L) (jV L)) ↦[cAll.view.set]{qc} ce)
        ∗ ((lst inb).view.loc (V d (cV L) (jV L)) ↦[(lst inb).view.set]{qi} iB tg b)))
      (B := iprop(((Memref.whole main_arg2_scv).view.loc (V d (cV L) (jV L)) ↦[Finset.univ \ cAll.view.set]{qc} ce)
        ∗ ((Memref.whole cc0_scratch0).view.loc (V d (cV L) (jV L)) ↦[I \ (lst inb).view.set]{qi} iB tg b))) ?_) $$ [Hfl Hcr Hir]
  · rw [hd]
    iintro ⟨⟨Hd, Hc, Hi⟩, Hcr, Hir⟩
    isplitl [Hd]
    · iapply (Entails.of_eq (show (dst.view.loc (V d (cV L) (jV L)) ↦{fullShare} g' : sProp 𝕄)
        = dst.view.loc (V d (cV L) (jV L)) ↦[dst.view.set]{fullShare} g' by rw [hset]).symm); iexact Hd
    isplitl [Hc Hcr]
    · iapply (pointsTo_split_subset (q := qc) (f := ce) (S := Finset.univ) (Finset.subset_univ cAll.view.set)).2
      isplitl [Hc] <;> iassumption
    · iapply (pointsTo_split_subset (q := qi) (f := iB tg b) (S := I) hI).2
      isplitl [Hi] <;> iassumption
  · isplitl [Hfl]; · iexact Hfl
    isplitl [Hcr] <;> iassumption

/-- The copy of chunk `n`'s feature rows into `dst`: in flight, it delivers those rows and the share it read from. -/
theorem feat_issue (n : ℕ) (dst : Memref sig .scVector .vmem S64x128 .f32) (sem : DmaSem sig)
    (f' : Buf (Elt F) (dst.view.loc (V d (cV L) (jV L))))
    (hw : ∀ f, dst.view.write (Elt F) f (fB fe b n) Finset.univ = f')
    {off : Fin 2 → ℕ} (hoff : off = ![b + 64 * n, 0]) (inb : ∀ a, off a + S64x128.size a ≤ S16384x128.size a)
    (qf : PosShare TreeShare) (fd : Buf (Elt F) (dst.view.loc (V d (cV L) (jV L)))) (hN : dst.view.amount (.dma sem) = dst.view.dmaCredit)
    (hN0 : 0 < dst.view.dmaCredit)
    {hsrc : (rowsF inb).view.WordExact} {hdst : dst.view.WordExact}
    {hsem : DmaTarget.Typed (nD := nD) (τ := τ) (p := .scVector (cV L) (jV L)) Space.hbm (.dma sem) (.here dst)}
    {β : Type} (k : PUnit → Prog (TpuEff nD τ sig (Elt F) Λ₀ (.scVector (cV L) (jV L))) β) (Q : β → sProp 𝕄) :
    iprop((dst.view.loc (V d (cV L) (jV L)) ↦{fullShare} fd)
        ∗ ((Memref.whole main_arg0_scv).view.loc (V d (cV L) (jV L)) ↦{qf} fe)
        ∗ semVal (V d (cV L) (jV L), SemLoc.dma sem) 0
        ∗ (Transfers.Flight countersEmb (V d (cV L) (jV L)) (.dma sem) (default : HIx 1) dst.view.dmaCredit
              iprop((dst.view.loc (V d (cV L) (jV L)) ↦{fullShare} f')
                ∗ ((Memref.whole main_arg0_scv).view.loc (V d (cV L) (jV L)) ↦{qf} fe))
            -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (Prog.lift (.enqueueDma (rowsF inb) (.here dst) (.dma sem) hsrc hdst hsem) >>= k) Q := by
  iintro ⟨Hd, Hf, Hsem, Hk⟩
  ihave Hf2 := (pointsTo_split_subset (q := qf) (f := fe) (S := Finset.univ) (Finset.subset_univ (rowsF inb).view.set)).1 $$ Hf
  icases Hf2 with ⟨Hf, Hfr⟩
  iapply (Transfers.wp_dmaLocal countersEmb 𝒱₀ (V d (cV L) (jV L)) none (default : HIx 1) dst.view.dmaCredit hN hN0
    (Finset.subset_univ dst.view.set)) $$ [Hd Hf Hsem]
  · isplitl [Hf]; · iexact Hf
    isplitl [Hd]; · iexact Hd
    iexact Hsem
  iintro Hfl
  iapply Hk
  iapply (flight_with (A := iprop((dst.view.loc (V d (cV L) (jV L)) ↦[Finset.univ]{fullShare}
        (dst.view.write (Elt F) fd (ReadAs.same.apply ((rowsF inb).view.read (Elt F) fe)) Finset.univ))
        ∗ ((rowsF inb).view.loc (V d (cV L) (jV L)) ↦[(rowsF inb).view.set]{qf} fe)))
    (B := iprop((Memref.whole main_arg0_scv).view.loc (V d (cV L) (jV L)) ↦[Finset.univ \ (rowsF inb).view.set]{qf} fe)) ?_) $$ [Hfl Hfr]
  · rw [show (ReadAs.same.apply ((rowsF inb).view.read (Elt F) fe) : S64x128.Idx → F .f32) = fB fe b n from read_feat fe b n hoff inb, hw]
    iintro ⟨⟨Hd, Hf⟩, Hfr⟩
    isplitl [Hd]; · iexact Hd
    iapply (pointsTo_split_subset (q := qf) (f := fe) (S := Finset.univ) (Finset.subset_univ (rowsF inb).view.set)).2
    isplitl [Hf] <;> iassumption
  · isplitl [Hfl] <;> iassumption

end Cert.Proof.CenterLoss

end
-- ==== Proof.Trip.lean ====
/-
  One trip of the loop over pairs of chunks: each buffer pair's chunk is awaited, accumulated, and its pair refilled
  with the chunk two further on while there is one.
-/
module

public import proofs.«01_k».proof.Proof.Issue

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (fe : S16384x128.Idx → F .f32) (tg : S16384.Idx → BitVec 32) (ce : S100000x128.Idx → F .f32) (b : ℕ)
variable (qf qc : PosShare TreeShare)

/-- The first buffer pair's gather of chunk `n`, landed, and the shares it reads from. -/
abbrev G0 (n : ℕ) : sProp 𝕄 :=
  iprop(((Memref.whole cc0_scratch1).view.loc (V d (cV L) (jV L)) ↦{fullShare} gB tg ce b n)
    ∗ ((Memref.whole main_arg2_scv).view.loc (V d (cV L) (jV L)) ↦{qc.left} ce)
    ∗ ((Memref.whole cc0_scratch0).view.loc (V d (cV L) (jV L)) ↦[Finset.univ]{fullShare.left} iB tg b))

/-- The first buffer pair's copy of chunk `n`, landed, and the share it reads from. -/
abbrev F0 (n : ℕ) : sProp 𝕄 :=
  iprop(((Memref.whole cc0_scratch3).view.loc (V d (cV L) (jV L)) ↦{fullShare} fB fe b n)
    ∗ ((Memref.whole main_arg0_scv).view.loc (V d (cV L) (jV L)) ↦{qf.left} fe))

/-- The second buffer pair's gather of chunk `n`, landed, and the shares it reads from. -/
abbrev G1 (n : ℕ) : sProp 𝕄 :=
  iprop(((Memref.whole cc0_scratch2).view.loc (V d (cV L) (jV L)) ↦{fullShare} gB tg ce b n)
    ∗ ((Memref.whole main_arg2_scv).view.loc (V d (cV L) (jV L)) ↦{qc.right} ce)
    ∗ ((Memref.whole cc0_scratch0).view.loc (V d (cV L) (jV L)) ↦[Finset.univ]{fullShare.right} iB tg b))

/-- The second buffer pair's copy of chunk `n`, landed, and the share it reads from. -/
abbrev F1 (n : ℕ) : sProp 𝕄 :=
  iprop(((Memref.whole cc0_scratch4).view.loc (V d (cV L) (jV L)) ↦{fullShare} fB fe b n)
    ∗ ((Memref.whole main_arg0_scv).view.loc (V d (cV L) (jV L)) ↦{qf.right} fe))

/-- A transfer of a chunk in flight on a semaphore of the tile. -/
abbrev fly (sm : DmaSem sig) (dst : Memref sig .scVector .vmem S64x128 .f32) (P : sProp 𝕄) : sProp 𝕄 :=
  Transfers.Flight countersEmb (V d (cV L) (jV L)) (.dma sm) (default : HIx 1) dst.view.dmaCredit P

/-- The first buffer pair before trip `k`: chunk `2 k` in flight, or the pair at rest after the last trip. -/
def slot0 (k : ℕ) : sProp 𝕄 :=
  if k < 4 then iprop(fly d L cc0_scratch6.sem (Memref.whole cc0_scratch1) (G0 d L tg ce b qc (2 * k))
      ∗ fly d L cc0_scratch8.sem (Memref.whole cc0_scratch3) (F0 d L fe b qf (2 * k)))
  else iprop((∃ n, G0 d L tg ce b qc n) ∗ (∃ n, F0 d L fe b qf n)
      ∗ semVal (V d (cV L) (jV L), SemLoc.dma cc0_scratch6.sem) 0 ∗ semVal (V d (cV L) (jV L), SemLoc.dma cc0_scratch8.sem) 0)

/-- The second buffer pair before trip `k`: chunk `2 k + 1` in flight, or the pair at rest after the last trip. -/
def slot1 (k : ℕ) : sProp 𝕄 :=
  if k < 4 then iprop(fly d L cc0_scratch7.sem (Memref.whole cc0_scratch2) (G1 d L tg ce b qc (2 * k + 1))
      ∗ fly d L cc0_scratch9.sem (Memref.whole cc0_scratch4) (F1 d L fe b qf (2 * k + 1)))
  else iprop((∃ n, G1 d L tg ce b qc n) ∗ (∃ n, F1 d L fe b qf n)
      ∗ semVal (V d (cV L) (jV L), SemLoc.dma cc0_scratch7.sem) 0 ∗ semVal (V d (cV L) (jV L), SemLoc.dma cc0_scratch9.sem) 0)

theorem slot0_busy {k : ℕ} (h : k < 4) : slot0 d L fe tg ce b qf qc k
    = iprop(fly d L cc0_scratch6.sem (Memref.whole cc0_scratch1) (G0 d L tg ce b qc (2 * k))
      ∗ fly d L cc0_scratch8.sem (Memref.whole cc0_scratch3) (F0 d L fe b qf (2 * k))) := if_pos h

theorem slot0_rest {k : ℕ} (h : ¬k < 4) : slot0 d L fe tg ce b qf qc k
    = iprop((∃ n, G0 d L tg ce b qc n) ∗ (∃ n, F0 d L fe b qf n)
      ∗ semVal (V d (cV L) (jV L), SemLoc.dma cc0_scratch6.sem) 0 ∗ semVal (V d (cV L) (jV L), SemLoc.dma cc0_scratch8.sem) 0) := if_neg h

theorem slot1_busy {k : ℕ} (h : k < 4) : slot1 d L fe tg ce b qf qc k
    = iprop(fly d L cc0_scratch7.sem (Memref.whole cc0_scratch2) (G1 d L tg ce b qc (2 * k + 1))
      ∗ fly d L cc0_scratch9.sem (Memref.whole cc0_scratch4) (F1 d L fe b qf (2 * k + 1))) := if_pos h

theorem slot1_rest {k : ℕ} (h : ¬k < 4) : slot1 d L fe tg ce b qf qc k
    = iprop((∃ n, G1 d L tg ce b qc n) ∗ (∃ n, F1 d L fe b qf n)
      ∗ semVal (V d (cV L) (jV L), SemLoc.dma cc0_scratch7.sem) 0 ∗ semVal (V d (cV L) (jV L), SemLoc.dma cc0_scratch9.sem) 0) := if_neg h

/-- What the tile still owes, its own waits added. -/
def debt (O : CellTallies nD τ sig (HIx 1)) (W : Waits sig (HIx 1)) : sProp 𝕄 :=
  iprop(∃ W', ⌜∀ p ∈ W', p ∈ W ∨ p.2 = none⌝ ∗ owes (V d (cV L) (jV L)) O W')

/-- Before trip `k`: the accumulators after `128 k` samples and the two buffer pairs. -/
def inv (O : CellTallies nD τ sig (HIx 1)) (W : Waits sig (HIx 1)) (k : ℕ) (a : Acc8 F) : sProp 𝕄 :=
  iprop(⌜a = acc8 fe tg ce b (128 * k)⌝ ∗ Transfers.MayWaits (V d (cV L) (jV L)) (default : HIx 1) O
    ∗ slot0 d L fe tg ce b qf qc k ∗ slot1 d L fe tg ce b qf qc k ∗ debt (F := F) d L O W)

/-- Waiting for a transfer of the tile. -/
theorem wait_fly {sem : DmaSem sig} {s' : Shape} {e' : EltTy} {sp' : Space} {N : ℕ} {sd : Shape} {ed : EltTy} {spd : Space}
    {dstw : Memref sig .scVector spd sd ed} {A : sProp 𝕄}
    {srcw : Memref sig .scVector sp' s' e'} {hsrc : srcw.view.WordExact} {hdst : dstw.view.WordExact} (hN : dstw.view.dmaCredit = N)
    (O : CellTallies nD τ sig (HIx 1)) (W : Waits sig (HIx 1))
    {β : Type} (k : PUnit → Prog (TpuEff nD τ sig (Elt F) Λ₀ (.scVector (cV L) (jV L))) β) (Q : β → sProp 𝕄) :
    iprop(Transfers.Flight countersEmb (V d (cV L) (jV L)) (.dma sem) (default : HIx 1) N A ∗ debt (F := F) d L O W
        ∗ Transfers.MayWaits (V d (cV L) (jV L)) (default : HIx 1) O
        ∗ (iprop(A ∗ semVal (V d (cV L) (jV L), SemLoc.dma sem) 0 ∗ debt (F := F) d L O W)
          -∗ wp frame (wpE (defs₀ (F := F)) 𝒱₀ (V d (cV L) (jV L)) none) Set.univ (k ⟨⟩) Q))
      ⊢ wp frame (wpE (defs₀ (F := F)) 𝒱₀ (V d (cV L) (jV L)) none) Set.univ (.op (.waitDma2 sem srcw dstw hsrc hdst) k) Q := by
  unfold debt
  iintro ⟨Hfl, ⟨%W', %hW, HO⟩, Hmw, Hk⟩
  iapply (Transfers.wp_waitLocalO countersEmb 𝒱₀ (V d (cV L) (jV L)) none (default : HIx 1) hN) $$ [Hfl HO Hmw]
  · isplitl [Hfl]; · iexact Hfl
    isplitl [HO]; · iexact HO
    iapply (Transfers.MayWaits.elim (SemLoc.dma sem)) $$ Hmw
  iintro ⟨HA, Hsem, HO⟩
  iapply Hk
  isplitl [HA]; · iexact HA
  isplitl [Hsem]; · iexact Hsem
  iexists _; isplitr
  swap; · iexact HO
  ipureintro; intro p hp
  rcases Finset.mem_insert.mp hp with hp | hp
  · exact .inr (hp ▸ rfl)
  · exact hW p hp

/-- A program that only answers does what the answer allows. -/
theorem wp_done {β : Type} (x : β) (Q : β → sProp 𝕄) :
    Q x ⊢ wp frame (wpE (defs₀ (F := F)) 𝒱₀ (V d (cV L) (jV L)) none) Set.univ
      (Pure.pure x : Prog (TpuEff nD τ sig (Elt F) Λ₀ (.scVector (cV L) (jV L))) β) Q := by
  show _ ⊢ wp frame _ _ (.ret x) _
  rw [wp_ret]
  iintro H
  imodintro
  iexact H

theorem cond1_iff : ∀ k : Fin k0_t1_loop.trips, k0_cond1 k = 1#1 ↔ k.val + 1 < 4 := by decide
theorem cond2_iff : ∀ k : Fin k0_t1_loop.trips, k0_cond2 k = 1#1 ↔ k.val + 1 < 4 := by decide

theorem setW (r : Ref sig .scVector) : (Memref.whole r).view.set = Finset.univ := View.set_whole _

/-- Chunk `n` in the first pair: its transfers awaited, then accumulated. -/
theorem half0 (n : ℕ) (O : CellTallies nD τ sig (HIx 1)) (W : Waits sig (HIx 1)) (v2 c0 c1 : BitVec 32) (t1 : Fin k0_t1_loop.trips)
    (a1 a2 a3 a4 a5 a6 a7 a8 : FVec F S16 .f32)
    {srcf : Memref sig .scVector .hbm S64x128 .f32} {h1 : cAll.view.WordExact} {h2 : (Memref.whole cc0_scratch1).view.WordExact}
    {h3 : srcf.view.WordExact} {h4 : (Memref.whole cc0_scratch3).view.WordExact}
    {β : Type} (kk : Acc8 F → Prog (TpuEff nD τ sig (Elt F) Λ₀ (.scVector (cV L) (jV L))) β) (Q : β → sProp 𝕄) :
    iprop(fly d L cc0_scratch6.sem (Memref.whole cc0_scratch1) (G0 d L tg ce b qc n) ∗ fly d L cc0_scratch8.sem (Memref.whole cc0_scratch3) (F0 d L fe b qf n)
        ∗ debt (F := F) d L O W ∗ Transfers.MayWaits (V d (cV L) (jV L)) (default : HIx 1) O
        ∗ (iprop(G0 d L tg ce b qc n ∗ F0 d L fe b qf n ∗ semVal (V d (cV L) (jV L), SemLoc.dma cc0_scratch6.sem) 0
            ∗ semVal (V d (cV L) (jV L), SemLoc.dma cc0_scratch8.sem) 0 ∗ debt (F := F) d L O W)
          -∗ wp frame (wpE (defs₀ (F := F)) 𝒱₀ (V d (cV L) (jV L)) none) Set.univ (kk (acc8 fe tg ce b (64 * n + 64))) Q))
      ⊢ wp frame (wpE (defs₀ (F := F)) 𝒱₀ (V d (cV L) (jV L)) none) Set.univ
          (SparseCore.waitIndirectGather cc0_scratch6.sem cAll (Memref.whole cc0_scratch1) h1 h2 >>= fun _ =>
            Prog.lift (.waitDma2 cc0_scratch8.sem srcf (Memref.whole cc0_scratch3) h3 h4) >>= fun _ =>
            Scf.Loop.for k0_t2_loop k0_t2_ok (acc8 fe tg ce b (64 * n))
              (k0_t2_body L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2
              v2 c0 c1 t1 a1 a2 a3 a4 a5 a6 a7 a8) >>= kk) Q := by
  iintro ⟨Hfg, Hff, HO, #Hmw, Hk⟩
  iapply (wait_fly d L rfl O W) $$ [-]
  isplitl [Hfg]; · iexact Hfg
  isplitl [HO]; · iexact HO
  isplitr; · iexact Hmw
  iintro ⟨⟨Hg, Hc, Hi⟩, Hsg, HO⟩
  iapply (wait_fly d L rfl O W) $$ [-]
  isplitl [Hff]; · iexact Hff
  isplitl [HO]; · iexact HO
  isplitr; · iexact Hmw
  iintro ⟨⟨Hf, Hx⟩, Hsf, HO⟩
  iapply (inner0 d L fe tg ce b n v2 c0 c1 t1 a1 a2 a3 a4 a5 a6 a7 a8 kk Q) $$ [-]
  isplitl [Hg]; · iexact Hg
  isplitl [Hf]; · iexact Hf
  iintro ⟨Hg, Hf⟩
  iapply Hk
  isplitl [Hg Hc Hi]
  · isplitl [Hg]; · iexact Hg
    isplitl [Hc] <;> iassumption
  isplitl [Hf Hx]; · isplitl [Hf] <;> iassumption
  isplitl [Hsg]; · iexact Hsg
  isplitl [Hsf] <;> iassumption

/-- The first pair at rest, refilled with chunk `n`. -/
theorem refill0 (htg : ∀ j, (tg j).toNat < 100000) (n : ℕ) {offi : Fin 1 → ℕ} (hoffi : offi = ![64 * n])
    (inbi : ∀ a, offi a + S64.size a ≤ S512.size a) {offf : Fin 2 → ℕ} (hofff : offf = ![b + 64 * n, 0])
    (inbf : ∀ a, offf a + S64x128.size a ≤ S16384x128.size a) (n₁ n₂ : ℕ)
    {h1 : cAll.view.WordExact} {h2 : S100000x128.StreamRows 0} {h3 : (rowsF inbf).view.WordExact}
    {h4 : (Memref.whole cc0_scratch3).view.WordExact}
    {h5 : DmaTarget.Typed (nD := nD) (τ := τ) (p := .scVector (cV L) (jV L)) Space.hbm (.dma cc0_scratch8.sem) (.here (Memref.whole cc0_scratch3))}
    {β : Type} (k : PUnit → Prog (TpuEff nD τ sig (Elt F) Λ₀ (.scVector (cV L) (jV L))) β) (Q : β → sProp 𝕄) :
    iprop(G0 d L tg ce b qc n₁ ∗ F0 d L fe b qf n₂ ∗ semVal (V d (cV L) (jV L), SemLoc.dma cc0_scratch6.sem) 0
        ∗ semVal (V d (cV L) (jV L), SemLoc.dma cc0_scratch8.sem) 0
        ∗ (iprop(fly d L cc0_scratch6.sem (Memref.whole cc0_scratch1) (G0 d L tg ce b qc n) ∗ fly d L cc0_scratch8.sem (Memref.whole cc0_scratch3) (F0 d L fe b qf n))
          -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (SparseCore.enqueueIndirectGather rfl cAll (Memref.whole cc0_scratch1) gathers_S100000x128_S64x128 (lst inbi) rfl cc0_scratch6.sem h1 rfl
              (Or.inl rfl) h2 >>= fun _ =>
            Prog.lift (.enqueueDma (rowsF inbf) (.here (Memref.whole cc0_scratch3)) (.dma cc0_scratch8.sem) h3 h4 h5) >>= k) Q := by
  iintro ⟨⟨Hg, Hc, Hi⟩, ⟨Hf, Hx⟩, Hsg, Hsf, Hk⟩
  iapply (gather_issue d L tg ce b htg n (Memref.whole cc0_scratch1) cc0_scratch6.sem (gB tg ce b n) (setW _) (fun _ => View.write_whole_univ _ _ _)
    (by decide) hoffi inbi (Finset.subset_univ _) qc.left fullShare.left _ _ Q) $$ [-]
  isplitl [Hg]; · iexact Hg
  isplitl [Hc]; · iexact Hc
  isplitl [Hi]; · iexact Hi
  isplitl [Hsg]; · iexact Hsg
  iintro Hfg
  iapply (feat_issue d L fe b n (Memref.whole cc0_scratch3) cc0_scratch8.sem (fB fe b n) (fun _ => View.write_whole_univ _ _ _)
    hofff inbf qf.left _ rfl (by decide) k Q) $$ [-]
  isplitl [Hf]; · iexact Hf
  isplitl [Hx]; · iexact Hx
  isplitl [Hsf]; · iexact Hsf
  iintro Hff
  iapply Hk
  isplitl [Hfg] <;> iassumption

/-- Chunk `n` in the second pair: its transfers awaited, then accumulated. -/
theorem half1 (n : ℕ) (O : CellTallies nD τ sig (HIx 1)) (W : Waits sig (HIx 1)) (v2 c0 c1 : BitVec 32) (t1 : Fin k0_t1_loop.trips)
    (a1 a2 a3 a4 a5 a6 a7 a8 : FVec F S16 .f32)
    {srcf : Memref sig .scVector .hbm S64x128 .f32} {h1 : cAll.view.WordExact} {h2 : (Memref.whole cc0_scratch2).view.WordExact}
    {h3 : srcf.view.WordExact} {h4 : (Memref.whole cc0_scratch4).view.WordExact}
    {β : Type} (kk : Acc8 F → Prog (TpuEff nD τ sig (Elt F) Λ₀ (.scVector (cV L) (jV L))) β) (Q : β → sProp 𝕄) :
    iprop(fly d L cc0_scratch7.sem (Memref.whole cc0_scratch2) (G1 d L tg ce b qc n) ∗ fly d L cc0_scratch9.sem (Memref.whole cc0_scratch4) (F1 d L fe b qf n)
        ∗ debt (F := F) d L O W ∗ Transfers.MayWaits (V d (cV L) (jV L)) (default : HIx 1) O
        ∗ (iprop(G1 d L tg ce b qc n ∗ F1 d L fe b qf n ∗ semVal (V d (cV L) (jV L), SemLoc.dma cc0_scratch7.sem) 0
            ∗ semVal (V d (cV L) (jV L), SemLoc.dma cc0_scratch9.sem) 0 ∗ debt (F := F) d L O W)
          -∗ wp frame (wpE (defs₀ (F := F)) 𝒱₀ (V d (cV L) (jV L)) none) Set.univ (kk (acc8 fe tg ce b (64 * n + 64))) Q))
      ⊢ wp frame (wpE (defs₀ (F := F)) 𝒱₀ (V d (cV L) (jV L)) none) Set.univ
          (SparseCore.waitIndirectGather cc0_scratch7.sem cAll (Memref.whole cc0_scratch2) h1 h2 >>= fun _ =>
            Prog.lift (.waitDma2 cc0_scratch9.sem srcf (Memref.whole cc0_scratch4) h3 h4) >>= fun _ =>
            Scf.Loop.for k0_t3_loop k0_t3_ok (acc8 fe tg ce b (64 * n))
              (k0_t3_body L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2
              v2 c0 c1 t1 a1 a2 a3 a4 a5 a6 a7 a8) >>= kk) Q := by
  iintro ⟨Hfg, Hff, HO, #Hmw, Hk⟩
  iapply (wait_fly d L rfl O W) $$ [-]
  isplitl [Hfg]; · iexact Hfg
  isplitl [HO]; · iexact HO
  isplitr; · iexact Hmw
  iintro ⟨⟨Hg, Hc, Hi⟩, Hsg, HO⟩
  iapply (wait_fly d L rfl O W) $$ [-]
  isplitl [Hff]; · iexact Hff
  isplitl [HO]; · iexact HO
  isplitr; · iexact Hmw
  iintro ⟨⟨Hf, Hx⟩, Hsf, HO⟩
  iapply (inner1 d L fe tg ce b n v2 c0 c1 t1 a1 a2 a3 a4 a5 a6 a7 a8 kk Q) $$ [-]
  isplitl [Hg]; · iexact Hg
  isplitl [Hf]; · iexact Hf
  iintro ⟨Hg, Hf⟩
  iapply Hk
  isplitl [Hg Hc Hi]
  · isplitl [Hg]; · iexact Hg
    isplitl [Hc] <;> iassumption
  isplitl [Hf Hx]; · isplitl [Hf] <;> iassumption
  isplitl [Hsg]; · iexact Hsg
  isplitl [Hsf] <;> iassumption

/-- The second pair at rest, refilled with chunk `n`. -/
theorem refill1 (htg : ∀ j, (tg j).toNat < 100000) (n : ℕ) {offi : Fin 1 → ℕ} (hoffi : offi = ![64 * n])
    (inbi : ∀ a, offi a + S64.size a ≤ S512.size a) {offf : Fin 2 → ℕ} (hofff : offf = ![b + 64 * n, 0])
    (inbf : ∀ a, offf a + S64x128.size a ≤ S16384x128.size a) (n₁ n₂ : ℕ)
    {h1 : cAll.view.WordExact} {h2 : S100000x128.StreamRows 0} {h3 : (rowsF inbf).view.WordExact}
    {h4 : (Memref.whole cc0_scratch4).view.WordExact}
    {h5 : DmaTarget.Typed (nD := nD) (τ := τ) (p := .scVector (cV L) (jV L)) Space.hbm (.dma cc0_scratch9.sem) (.here (Memref.whole cc0_scratch4))}
    {β : Type} (k : PUnit → Prog (TpuEff nD τ sig (Elt F) Λ₀ (.scVector (cV L) (jV L))) β) (Q : β → sProp 𝕄) :
    iprop(G1 d L tg ce b qc n₁ ∗ F1 d L fe b qf n₂ ∗ semVal (V d (cV L) (jV L), SemLoc.dma cc0_scratch7.sem) 0
        ∗ semVal (V d (cV L) (jV L), SemLoc.dma cc0_scratch9.sem) 0
        ∗ (iprop(fly d L cc0_scratch7.sem (Memref.whole cc0_scratch2) (G1 d L tg ce b qc n) ∗ fly d L cc0_scratch9.sem (Memref.whole cc0_scratch4) (F1 d L fe b qf n))
          -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (SparseCore.enqueueIndirectGather rfl cAll (Memref.whole cc0_scratch2) gathers_S100000x128_S64x128 (lst inbi) rfl cc0_scratch7.sem h1 rfl
              (Or.inl rfl) h2 >>= fun _ =>
            Prog.lift (.enqueueDma (rowsF inbf) (.here (Memref.whole cc0_scratch4)) (.dma cc0_scratch9.sem) h3 h4 h5) >>= k) Q := by
  iintro ⟨⟨Hg, Hc, Hi⟩, ⟨Hf, Hx⟩, Hsg, Hsf, Hk⟩
  iapply (gather_issue d L tg ce b htg n (Memref.whole cc0_scratch2) cc0_scratch7.sem (gB tg ce b n) (setW _) (fun _ => View.write_whole_univ _ _ _)
    (by decide) hoffi inbi (Finset.subset_univ _) qc.right fullShare.right _ _ Q) $$ [-]
  isplitl [Hg]; · iexact Hg
  isplitl [Hc]; · iexact Hc
  isplitl [Hi]; · iexact Hi
  isplitl [Hsg]; · iexact Hsg
  iintro Hfg
  iapply (feat_issue d L fe b n (Memref.whole cc0_scratch4) cc0_scratch9.sem (fB fe b n) (fun _ => View.write_whole_univ _ _ _)
    hofff inbf qf.right _ rfl (by decide) k Q) $$ [-]
  isplitl [Hf]; · iexact Hf
  isplitl [Hx]; · iexact Hx
  isplitl [Hsf]; · iexact Hsf
  iintro Hff
  iapply Hk
  isplitl [Hfg] <;> iassumption

set_option maxHeartbeats 8000000 in
/-- One trip keeps the invariant. -/
theorem trip (htg : ∀ j, (tg j).toNat < 100000) (hb : b = 1024 * (L 1).val + 512 * (L 0).val)
    (O : CellTallies nD τ sig (HIx 1)) (W : Waits sig (HIx 1)) (v2 : BitVec 32) (k : Fin k0_t1_loop.trips) (a : Acc8 F) :
    inv d L fe tg ce b qf qc O W k.val a
      ⊢ wp frame (wpE (defs₀ (F := F)) 𝒱₀ (V d (cV L) (jV L)) none) Set.univ
          (k0_t1_body L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2 v2 k a)
          (inv d L fe tg ce b qf qc O W (k.val + 1)) := by
  have hk : k.val < 4 := trips1 ▸ k.isLt
  have e0 := slot0_busy d L fe tg ce b qf qc hk
  have e1 := slot1_busy d L fe tg ce b qf qc hk
  unfold inv
  rw [e0, e1]
  have ea : 128 * k.val = 64 * (2 * k.val) := by omega
  have eb : 64 * (2 * k.val) + 64 = 64 * (2 * k.val + 1) := by omega
  have ec : 64 * (2 * k.val + 1) + 64 = 128 * (k.val + 1) := by omega
  have o0 : k0_off12 k = ![64 * (2 * (k.val + 1))] := (k0_off12_eq k).trans (by congr 1; omega)
  have o1 : k0_off22 k = ![64 * (2 * (k.val + 1) + 1)] := (k0_off22_eq k).trans (by congr 1; omega)
  have p0 : k0_off13 L k = ![b + 64 * (2 * (k.val + 1)), 0] := (k0_off13_eq L k).trans (by congr 1; omega)
  have p1 : k0_off23 L k = ![b + 64 * (2 * (k.val + 1) + 1), 0] := (k0_off23_eq L k).trans (by congr 1; omega)
  by_cases h : k.val + 1 < 4
  · rw [slot0_busy d L fe tg ce b qf qc h, slot1_busy d L fe tg ce b qf qc h]
    have h1 := (cond1_iff k).mpr h
    have h2 := (cond2_iff k).mpr h
    iintro ⟨%ha, #Hmw, ⟨Hg0, Hf0⟩, ⟨Hg1, Hf1⟩, HO⟩
    subst ha
    unfold k0_t1_body
    simp only [k0_part3_eq_skeleton, ea]
    unfold k0_part3_skel
    simp only [dif_pos h1, dif_pos h2, Prog.bind_assoc]
    iapply (half0 d L fe tg ce b qf qc (2 * k.val) O W _ _ _ _ _ _ _ _ _ _ _ _ _ _) $$ [-]
    isplitl [Hg0]; · iexact Hg0
    isplitl [Hf0]; · iexact Hf0
    isplitl [HO]; · iexact HO
    isplitr; · iexact Hmw
    iintro ⟨Hg0, Hf0, Hsg0, Hsf0, HO⟩
    iapply (refill0 d L fe tg ce b qf qc htg (2 * (k.val + 1)) o0 _ p0 _ (2 * k.val) (2 * k.val) _ _) $$ [-]
    isplitl [Hg0]; · iexact Hg0
    isplitl [Hf0]; · iexact Hf0
    isplitl [Hsg0]; · iexact Hsg0
    isplitl [Hsf0]; · iexact Hsf0
    iintro ⟨Hg0, Hf0⟩
    simp only [eb]
    iapply (half1 d L fe tg ce b qf qc (2 * k.val + 1) O W _ _ _ _ _ _ _ _ _ _ _ _ _ _) $$ [-]
    isplitl [Hg1]; · iexact Hg1
    isplitl [Hf1]; · iexact Hf1
    isplitl [HO]; · iexact HO
    isplitr; · iexact Hmw
    iintro ⟨Hg1, Hf1, Hsg1, Hsf1, HO⟩
    iapply (refill1 d L fe tg ce b qf qc htg (2 * (k.val + 1) + 1) o1 _ p1 _ (2 * k.val + 1) (2 * k.val + 1) (h2 := by decide) _ _) $$ [-]
    isplitl [Hg1]; · iexact Hg1
    isplitl [Hf1]; · iexact Hf1
    isplitl [Hsg1]; · iexact Hsg1
    isplitl [Hsf1]; · iexact Hsf1
    iintro ⟨Hg1, Hf1⟩
    simp only [ec, pure_bind]
    iapply (wp_done d L _ _)
    isplitr; · ipureintro; rfl
    isplitr; · iexact Hmw
    isplitl [Hg0 Hf0]; · isplitl [Hg0] <;> iassumption
    isplitl [Hg1 Hf1]; · isplitl [Hg1] <;> iassumption
    iexact HO
  · rw [slot0_rest d L fe tg ce b qf qc h, slot1_rest d L fe tg ce b qf qc h]
    have h1 := mt (cond1_iff k).mp h
    have h2 := mt (cond2_iff k).mp h
    iintro ⟨%ha, #Hmw, ⟨Hg0, Hf0⟩, ⟨Hg1, Hf1⟩, HO⟩
    subst ha
    unfold k0_t1_body
    simp only [k0_part3_eq_skeleton, ea]
    unfold k0_part3_skel
    simp only [dif_neg h1, dif_neg h2, Prog.bind_assoc]
    iapply (half0 d L fe tg ce b qf qc (2 * k.val) O W _ _ _ _ _ _ _ _ _ _ _ _ _ _) $$ [-]
    isplitl [Hg0]; · iexact Hg0
    isplitl [Hf0]; · iexact Hf0
    isplitl [HO]; · iexact HO
    isplitr; · iexact Hmw
    iintro ⟨Hg0, Hf0, Hsg0, Hsf0, HO⟩
    simp only [eb]
    iapply (half1 d L fe tg ce b qf qc (2 * k.val + 1) O W _ _ _ _ _ _ _ _ _ _ _ _ _ _) $$ [-]
    isplitl [Hg1]; · iexact Hg1
    isplitl [Hf1]; · iexact Hf1
    isplitl [HO]; · iexact HO
    isplitr; · iexact Hmw
    iintro ⟨Hg1, Hf1, Hsg1, Hsf1, HO⟩
    simp only [ec, pure_bind]
    iapply (wp_done d L _ _)
    isplitr; · ipureintro; rfl
    isplitr; · iexact Hmw
    isplitl [Hg0 Hf0 Hsg0 Hsf0]
    · isplitl [Hg0]; · iexists _; iexact Hg0
      isplitl [Hf0]; · iexists _; iexact Hf0
      isplitl [Hsg0] <;> iassumption
    isplitl [Hg1 Hf1 Hsg1 Hsf1]
    · isplitl [Hg1]; · iexists _; iexact Hg1
      isplitl [Hf1]; · iexists _; iexact Hf1
      isplitl [Hsg1] <;> iassumption
    iexact HO

end Cert.Proof.CenterLoss

end
-- ==== Proof.Tile.lean ====
/-
  The task of one tile: its targets fetched, the first two chunks started, the loop over pairs of chunks, and its
  partial sums written out.
-/
module

public import proofs.«01_k».proof.Proof.Trip
public import Idealize.ShloMosaic.Lib.VecWindow

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (fe : S16384x128.Idx → F .f32) (tg : S16384.Idx → BitVec 32) (ce : S100000x128.Idx → F .f32) (b : ℕ)
variable (qf qc : PosShare TreeShare)

/-- A copy of the tile issued and awaited: where it lands holds what it copied. -/
theorem copy_wait {sp sp' : Space} {s : Shape} {e : EltTy} (src : Memref sig .scVector sp s e) (dst : Memref sig .scVector sp' s e)
    (sem : DmaSem sig) (q : PosShare TreeShare) (g : Buf (Elt F) (src.view.loc (V d (cV L) (jV L))))
    (f f' : Buf (Elt F) (dst.view.loc (V d (cV L) (jV L)))) (hN : dst.view.amount (.dma sem) = dst.view.dmaCredit)
    (hN0 : 0 < dst.view.dmaCredit)
    (hval : ∀ i ∈ dst.view.set, dst.view.write (Elt F) f (src.view.read (Elt F) g) Finset.univ i = f' i)
    {h1 : src.view.WordExact} {h2 : dst.view.WordExact}
    {h3 : DmaTarget.Typed (nD := nD) (τ := τ) (p := .scVector (cV L) (jV L)) sp (.dma sem) (.here dst)}
    {h4 : src.view.WordExact} {h5 : dst.view.WordExact}
    (O : CellTallies nD τ sig (HIx 1)) (W : Waits sig (HIx 1))
    {β : Type} (k : PUnit → Prog (TpuEff nD τ sig (Elt F) Λ₀ (.scVector (cV L) (jV L))) β) (Q : β → sProp 𝕄) :
    iprop((src.view.loc (V d (cV L) (jV L)) ↦[src.view.set]{q} g) ∗ (dst.view.loc (V d (cV L) (jV L)) ↦[dst.view.set]{fullShare} f)
        ∗ semVal (V d (cV L) (jV L), SemLoc.dma sem) 0 ∗ debt (F := F) d L O W
        ∗ Transfers.MayWaits (V d (cV L) (jV L)) (default : HIx 1) O
        ∗ (iprop((src.view.loc (V d (cV L) (jV L)) ↦[src.view.set]{q} g) ∗ (dst.view.loc (V d (cV L) (jV L)) ↦[dst.view.set]{fullShare} f')
            ∗ semVal (V d (cV L) (jV L), SemLoc.dma sem) 0 ∗ debt (F := F) d L O W)
          -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (Prog.lift (.enqueueDma src (.here dst) (.dma sem) h1 h2 h3) >>= fun _ => Prog.lift (.waitDma2 sem src dst h4 h5) >>= k) Q := by
  iintro ⟨Hs, Hd, Hsem, HO, Hmw, Hk⟩
  iapply (Transfers.wp_dmaLocal countersEmb 𝒱₀ (V d (cV L) (jV L)) none (default : HIx 1) dst.view.dmaCredit hN hN0
    (Finset.Subset.refl dst.view.set)) $$ [Hs Hd Hsem]
  · isplitl [Hs]; · iexact Hs
    isplitl [Hd]; · iexact Hd
    iexact Hsem
  iintro Hfl
  iapply (wait_fly d L rfl O W) $$ [-]
  isplitl [Hfl]; · iexact Hfl
  isplitl [HO]; · iexact HO
  isplitl [Hmw]; · iexact Hmw
  iintro ⟨⟨Hd, Hs⟩, Hsem, HO⟩
  iapply Hk
  isplitl [Hs]; · iexact Hs
  isplitl [Hd]
  · iapply (Entails.of_eq (pointsTo_congr hval)); iexact Hd
  isplitl [Hsem] <;> iassumption

/-- The first sixty-four places of the tile's target list. -/
abbrev lo : Memref sig .scVector .vmem S64 .i32 := lst inb_S512_S64_0

/-- The other places of the tile's target list. -/
abbrev hi : Memref sig .scVector .vmem S448 .i32 :=
  (Memref.whole cc0_scratch0).slice (Rect.unit (s := S512) ![64] S448.size inb_S512_S448_64) (fun _ => rfl)

theorem hi_set : hi.view.set = Finset.univ \ lo.view.set := by
  have e1 : hi.view.set = (Rect.unit (s := S512) ![64] S448.size inb_S512_S448_64).set := by
    show ((View.whole (cc0_scratch0 : Ref sig .scVector)).slice _).set = _
    rw [View.set_slice]; exact Finset.map_refl
  have e2 : lo.view.set = (Rect.unit (s := S512) ![0] S64.size inb_S512_S64_0).set := by
    show ((View.whole (cc0_scratch0 : Ref sig .scVector)).slice _).set = _
    rw [View.set_slice]; exact Finset.map_refl
  rw [e1, e2]
  ext i
  have hi : (i 0).val < 512 := (i 0).isLt
  rw [Finset.mem_sdiff, Rect.mem_set_unit, Rect.mem_set_unit]
  constructor
  · intro h
    refine ⟨Finset.mem_univ _, fun h' => ?_⟩
    have a1 : 64 ≤ (i 0).val := (h 0).1
    have a2 : (i 0).val < 0 + 64 := (h' 0).2
    omega
  · rintro ⟨-, h⟩ a
    match a with
    | 0 =>
      refine ⟨?_, show (i 0).val < 64 + 448 from hi⟩
      show 64 ≤ (i 0).val
      by_contra hlt
      refine h fun a => ?_
      match a with
      | 0 => exact ⟨Nat.zero_le _, show (i 0).val < 0 + 64 by omega⟩

/-- Some of the targets, read at a share, beside the others. -/
theorem some_targets (q : PosShare TreeShare) {n : ℕ} {off : Fin 1 → ℕ} (inb : ∀ a, off a + (![n] : Fin 1 → ℕ) a ≤ S16384.size a) :
    ((Memref.whole main_arg1_scv).view.loc (V d (cV L) (jV L)) ↦{q} tg : sProp 𝕄)
      ⊣⊢ iprop((((Memref.whole main_arg1_scv).slice (Rect.unit (s := S16384) off ![n] inb) (fun _ => rfl)).view.loc (V d (cV L) (jV L))
          ↦[((Memref.whole main_arg1_scv).slice (Rect.unit (s := S16384) off ![n] inb) (fun _ => rfl)).view.set]{q} tg)
        ∗ ((Memref.whole main_arg1_scv).view.loc (V d (cV L) (jV L))
          ↦[Finset.univ \ ((Memref.whole main_arg1_scv).slice (Rect.unit (s := S16384) off ![n] inb) (fun _ => rfl)).view.set]{q} tg)) :=
  pointsTo_split_subset (Finset.subset_univ _)

/-- The two parts of the target list, read at a share, make the whole list. -/
theorem whole_list (q : PosShare TreeShare) :
    iprop(((Memref.whole cc0_scratch0).view.loc (V d (cV L) (jV L)) ↦[lo.view.set]{q} iB tg b)
        ∗ ((Memref.whole cc0_scratch0).view.loc (V d (cV L) (jV L)) ↦[Finset.univ \ lo.view.set]{q} iB tg b))
      ⊢ ((Memref.whole cc0_scratch0).view.loc (V d (cV L) (jV L)) ↦[Finset.univ]{q} iB tg b : sProp 𝕄) :=
  (pointsTo_split_subset (Finset.subset_univ lo.view.set)).2

/-- The two parts of the target list, read at a share beside a landed gather, make the whole list. -/
theorem join_list :
    iprop((((Memref.whole cc0_scratch1).view.loc (V d (cV L) (jV L)) ↦{fullShare} gB tg ce b 0)
        ∗ ((Memref.whole main_arg2_scv).view.loc (V d (cV L) (jV L)) ↦{qc.left} ce)
        ∗ ((Memref.whole cc0_scratch0).view.loc (V d (cV L) (jV L)) ↦[lo.view.set]{fullShare.left} iB tg b))
      ∗ ((Memref.whole cc0_scratch0).view.loc (V d (cV L) (jV L)) ↦[Finset.univ \ lo.view.set]{fullShare.left} iB tg b))
      ⊢ G0 d L tg ce b qc 0 := by
  iintro ⟨⟨H1, Hc, Hl⟩, Hh⟩
  isplitl [H1]; · iexact H1
  isplitl [Hc]; · iexact Hc
  iapply (whole_list d L tg b fullShare.left)
  isplitl [Hl] <;> iassumption

/-- The first two chunks in flight are the invariant before the first trip. -/
theorem inv_start (O : CellTallies nD τ sig (HIx 1)) (W : Waits sig (HIx 1)) :
    iprop(Transfers.MayWaits (V d (cV L) (jV L)) (default : HIx 1) O
        ∗ fly d L cc0_scratch6.sem (Memref.whole cc0_scratch1) (G0 d L tg ce b qc 0)
        ∗ fly d L cc0_scratch8.sem (Memref.whole cc0_scratch3) (F0 d L fe b qf 0)
        ∗ fly d L cc0_scratch7.sem (Memref.whole cc0_scratch2) (G1 d L tg ce b qc 1)
        ∗ fly d L cc0_scratch9.sem (Memref.whole cc0_scratch4) (F1 d L fe b qf 1) ∗ debt (F := F) d L O W)
      ⊢ inv d L fe tg ce b qf qc O W 0 (acc8 fe tg ce b (128 * 0)) := by
  unfold inv
  rw [slot0_busy d L fe tg ce b qf qc (by decide), slot1_busy d L fe tg ce b qf qc (by decide)]
  iintro ⟨Hmw, Fg0, Ff0, Fg1, Ff1, HO⟩
  isplitr; · ipureintro; rfl
  isplitl [Hmw]; · iexact Hmw
  isplitl [Fg0 Ff0]; · isplitl [Fg0] <;> iassumption
  isplitl [Fg1 Ff1]; · isplitl [Fg1] <;> iassumption
  iexact HO

/-- After the last trip the accumulators are the tile's, and both buffer pairs are at rest. -/
theorem inv_end (O : CellTallies nD τ sig (HIx 1)) (W : Waits sig (HIx 1)) (a : Acc8 F) :
    inv d L fe tg ce b qf qc O W k0_t1_loop.trips a
      ⊢ iprop(⌜a = acc8 fe tg ce b 512⌝ ∗ (∃ n, G0 d L tg ce b qc n) ∗ (∃ n, F0 d L fe b qf n)
        ∗ semVal (V d (cV L) (jV L), SemLoc.dma cc0_scratch6.sem) 0 ∗ semVal (V d (cV L) (jV L), SemLoc.dma cc0_scratch8.sem) 0
        ∗ (∃ n, G1 d L tg ce b qc n) ∗ (∃ n, F1 d L fe b qf n)
        ∗ semVal (V d (cV L) (jV L), SemLoc.dma cc0_scratch7.sem) 0 ∗ semVal (V d (cV L) (jV L), SemLoc.dma cc0_scratch9.sem) 0
        ∗ debt (F := F) d L O W) := by
  rw [trips1]
  unfold inv
  rw [slot0_rest d L fe tg ce b qf qc (by decide), slot1_rest d L fe tg ce b qf qc (by decide)]
  iintro ⟨%ha, -, ⟨Hg0, Hf0, Sg0, Sf0⟩, ⟨Hg1, Hf1, Sg1, Sf1⟩, HO⟩
  isplitr; · ipureintro; exact ha
  isplitl [Hg0]; · iexact Hg0
  isplitl [Hf0]; · iexact Hf0
  isplitl [Sg0]; · iexact Sg0
  isplitl [Sf0]; · iexact Sf0
  isplitl [Hg1]; · iexact Hg1
  isplitl [Hf1]; · iexact Hf1
  isplitl [Sg1]; · iexact Sg1
  isplitl [Sf1] <;> iassumption

/-- The tile's row of the partial sums. -/
abbrev outRow : Memref sig .scVector .hbm S16 .f32 :=
  ((Memref.whole main_v0_scv).slice (Rect.unit (s := S32x16) (k0_off24 L) S1x16.size (k0_off24_inb L)) (fun _ => rfl)).squeeze S16 squeezes_S1x16_S16

/-- An output array whose tile's row reads as the tile's partial sums holds them there. -/
theorem row_landed (hb : b = 1024 * (L 1).val + 512 * (L 0).val) (g : S32x16.Idx → F .f32)
    (hg : (outRow L).view.read (Elt F) g = part fe tg ce b) : ∀ i ∈ (outRow L).view.set, g i = outB fe tg ce i := by
  intro i hi
  rw [← out_landed fe tg ce b (2 * (L 1).val + (L 0).val) (by omega) (k0_off24_eq L) (k0_off24_inb L) g i hi, ← hg]
  obtain ⟨x, -, rfl⟩ := Finset.mem_map.mp hi
  rw [View.write_emb_of_mem _ _ (Finset.mem_univ x)]
  rfl

/-- The tile's row, written whole, reads as what was written. -/
theorem row_read (w : S16.Idx → F .f32) (fo : S32x16.Idx → F .f32) :
    (outRow L).view.read (Elt F) ((outRow L).view.writes (Elt F) fo [⟨Rect.whole S16, w⟩]) = w := by
  funext x
  have h := View.read_writes_cons_emb (Val := Elt F) (outRow L).view fo (Rect.whole S16) w [] x
  rwa [Rect.emb_whole_apply] at h

variable (qt : PosShare TreeShare)

/-- What a tile reads: a share of each of the three arrays. -/
abbrev reads : sProp 𝕄 :=
  iprop(((Memref.whole main_arg0_scv).view.loc (V d (cV L) (jV L)) ↦{qf} fe) ∗ ((Memref.whole main_arg1_scv).view.loc (V d (cV L) (jV L)) ↦{qt} tg) ∗ ((Memref.whole main_arg2_scv).view.loc (V d (cV L) (jV L)) ↦{qc} ce))

set_option maxHeartbeats 8000000 in
/-- The task of one tile. From shares of the three arrays, its row of the output, its scratch and its semaphores at
    zero, it ends with the row holding its partial sums, everything else handed back. -/
theorem tile_run (htg : ∀ j, (tg j).toNat < 100000) (hb : b = 1024 * (L 1).val + 512 * (L 0).val)
    (O : CellTallies nD τ sig (HIx 1)) (W : Waits sig (HIx 1)) (fo : S32x16.Idx → F .f32) (f0 : S512.Idx → BitVec 32)
    (f1 f2 f3 f4 : S64x128.Idx → F .f32) (f5 : S16.Idx → F .f32) :
    iprop(Transfers.MayWaits (V d (cV L) (jV L)) (default : HIx 1) O ∗ reads d L fe tg ce qf qc qt
        ∗ ((outRow L).view.loc (V d (cV L) (jV L)) ↦[(outRow L).view.set]{fullShare} fo)
        ∗ ((Memref.whole cc0_scratch0).view.loc (V d (cV L) (jV L)) ↦{fullShare} f0) ∗ ((Memref.whole cc0_scratch1).view.loc (V d (cV L) (jV L)) ↦{fullShare} f1) ∗ ((Memref.whole cc0_scratch2).view.loc (V d (cV L) (jV L)) ↦{fullShare} f2)
        ∗ ((Memref.whole cc0_scratch3).view.loc (V d (cV L) (jV L)) ↦{fullShare} f3) ∗ ((Memref.whole cc0_scratch4).view.loc (V d (cV L) (jV L)) ↦{fullShare} f4) ∗ ((Memref.whole cc0_scratch5).view.loc (V d (cV L) (jV L)) ↦{fullShare} f5)
        ∗ semVal (V d (cV L) (jV L), SemLoc.dma cc0_scratch6.sem) 0 ∗ semVal (V d (cV L) (jV L), SemLoc.dma cc0_scratch7.sem) 0 ∗ semVal (V d (cV L) (jV L), SemLoc.dma cc0_scratch8.sem) 0 ∗ semVal (V d (cV L) (jV L), SemLoc.dma cc0_scratch9.sem) 0 ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ debt (F := F) d L O W)
      ⊢ wp frame (wpE (defs₀ (F := F)) 𝒱₀ (V d (cV L) (jV L)) none) Set.univ
          (cc0_sck L (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2)
          fun _ => iprop(reads d L fe tg ce qf qc qt
            ∗ ((outRow L).view.loc (V d (cV L) (jV L)) ↦[(outRow L).view.set]{fullShare} outB fe tg ce)
            ∗ (∃ f, ((Memref.whole cc0_scratch0).view.loc (V d (cV L) (jV L)) ↦{fullShare} f)) ∗ (∃ f, ((Memref.whole cc0_scratch1).view.loc (V d (cV L) (jV L)) ↦{fullShare} f)) ∗ (∃ f, ((Memref.whole cc0_scratch2).view.loc (V d (cV L) (jV L)) ↦{fullShare} f))
            ∗ (∃ f, ((Memref.whole cc0_scratch3).view.loc (V d (cV L) (jV L)) ↦{fullShare} f)) ∗ (∃ f, ((Memref.whole cc0_scratch4).view.loc (V d (cV L) (jV L)) ↦{fullShare} f)) ∗ (∃ f, ((Memref.whole cc0_scratch5).view.loc (V d (cV L) (jV L)) ↦{fullShare} f))
            ∗ semVal (V d (cV L) (jV L), SemLoc.dma cc0_scratch6.sem) 0 ∗ semVal (V d (cV L) (jV L), SemLoc.dma cc0_scratch7.sem) 0 ∗ semVal (V d (cV L) (jV L), SemLoc.dma cc0_scratch8.sem) 0 ∗ semVal (V d (cV L) (jV L), SemLoc.dma cc0_scratch9.sem) 0 ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ debt (F := F) d L O W) := by
  have g0 : (![0] : Fin 1 → ℕ) = ![64 * 0] := rfl
  have g1 : (![64] : Fin 1 → ℕ) = ![64 * 1] := rfl
  have r0 : k0_off2 L 0#32 = ![b + 64 * 0, 0] := (k0_off2_eq L 0).trans (by congr 1; subst hb; rfl)
  have r1 : k0_off2 L 64#32 = ![b + 64 * 1, 0] := (k0_off2_eq L 1).trans (by congr 1; subst hb; rfl)
  have q0 : k0_off1 L = ![b + 0] := (k0_off1_eq L).trans (by congr 1; omega)
  have q1 : k0_off3 L = ![b + 64] := (k0_off3_eq L).trans (by congr 1; omega)
  simp only [cc0_sck_eq_skeleton]
  unfold cc0_sck_skel
  simp only [k0_part4_eq_skeleton]
  unfold k0_part4_skel
  simp only [Prog.bind_assoc, pure_bind]
  unfold reads
  iintro ⟨#Hmw, ⟨Hf, Ht, Hc⟩, Ho, H0, H1, H2, H3, H4, H5, Sg0, Sg1, Sf0, Sf1, Sa, Sb, Sc, HO⟩
  -- the first sixty-four targets
  ihave Ht2 := (some_targets d L tg qt (k0_off1_inb L)).1 $$ Ht
  icases Ht2 with ⟨Ht, Htr⟩
  ihave Hi2 := (pointsTo_split_subset (q := fullShare) (f := f0) (S := Finset.univ) (Finset.subset_univ lo.view.set)).1 $$ H0
  icases Hi2 with ⟨Hlo, Hhi⟩
  iapply (copy_wait d L _ lo cc0_scoped0.sem qt tg f0 (iB tg b) rfl (by decide)
    (list_landed tg b 0 rfl q0 inb_S512_S64_0 (k0_off1_inb L) f0) O W) $$ [-]
  isplitl [Ht]; · iexact Ht
  isplitl [Hlo]; · iexact Hlo
  isplitl [Sa]; · iexact Sa
  isplitl [HO]; · iexact HO
  isplitr; · iexact Hmw
  iintro ⟨Ht, Hlo, Sa, HO⟩
  ihave Ht := (some_targets d L tg qt (k0_off1_inb L)).2 $$ [Ht Htr]
  · isplitl [Ht] <;> iassumption
  ihave Hlo2 := (pointsTo_share (PosShare.mem_left_op_right fullShare)).1 $$ Hlo
  icases Hlo2 with ⟨Hlol, Hlor⟩
  ihave Hc2 := (pointsTo_share (PosShare.mem_left_op_right qc)).1 $$ Hc
  icases Hc2 with ⟨Hcl, Hcr⟩
  ihave Hf2 := (pointsTo_share (PosShare.mem_left_op_right qf)).1 $$ Hf
  icases Hf2 with ⟨Hfl, Hfr⟩
  -- chunk 0
  iapply (gather_issue d L tg ce b htg 0 (Memref.whole cc0_scratch1) cc0_scratch6.sem (gB tg ce b 0) (setW _)
    (fun _ => View.write_whole_univ _ _ _) (by decide) g0 inb_S512_S64_0 (Finset.Subset.refl _) qc.left fullShare.left _ _ _) $$ [-]
  isplitl [H1]; · iexact H1
  isplitl [Hcl]; · iexact Hcl
  isplitl [Hlol]; · iexact Hlol
  isplitl [Sg0]; · iexact Sg0
  iintro Fg0
  iapply (feat_issue d L fe b 0 (Memref.whole cc0_scratch3) cc0_scratch8.sem (fB fe b 0) (fun _ => View.write_whole_univ _ _ _)
    r0 (k0_off2_inb L 0) qf.left _ rfl (by decide) _ _) $$ [-]
  isplitl [H3]; · iexact H3
  isplitl [Hfl]; · iexact Hfl
  isplitl [Sf0]; · iexact Sf0
  iintro Ff0
  -- the other targets
  ihave Ht2 := (some_targets d L tg qt (k0_off3_inb L)).1 $$ Ht
  icases Ht2 with ⟨Ht, Htr⟩
  ihave Hhi := (Entails.of_eq (show ((Memref.whole cc0_scratch0).view.loc (V d (cV L) (jV L)) ↦[Finset.univ \ lo.view.set]{fullShare} f0 : sProp 𝕄)
    = hi.view.loc (V d (cV L) (jV L)) ↦[hi.view.set]{fullShare} f0 by rw [hi_set])) $$ Hhi
  iapply (copy_wait d L _ hi cc0_scoped1.sem qt tg f0 (iB tg b) rfl (by decide)
    (list_landed tg b 64 rfl q1 inb_S512_S448_64 (k0_off3_inb L) f0) O W) $$ [-]
  isplitl [Ht]; · iexact Ht
  isplitl [Hhi]; · iexact Hhi
  isplitl [Sb]; · iexact Sb
  isplitl [HO]; · iexact HO
  isplitr; · iexact Hmw
  iintro ⟨Ht, Hhi, Sb, HO⟩
  ihave Ht := (some_targets d L tg qt (k0_off3_inb L)).2 $$ [Ht Htr]
  · isplitl [Ht] <;> iassumption
  ihave Hhi := (Entails.of_eq (show (hi.view.loc (V d (cV L) (jV L)) ↦[hi.view.set]{fullShare} iB tg b : sProp 𝕄)
    = (Memref.whole cc0_scratch0).view.loc (V d (cV L) (jV L)) ↦[Finset.univ \ lo.view.set]{fullShare} iB tg b by rw [hi_set])) $$ Hhi
  ihave Hhi2 := (pointsTo_share (PosShare.mem_left_op_right fullShare)).1 $$ Hhi
  icases Hhi2 with ⟨Hhil, Hhir⟩
  ihave Fg0 := (flight_with (A := iprop(((Memref.whole cc0_scratch1).view.loc (V d (cV L) (jV L)) ↦{fullShare} gB tg ce b 0)
        ∗ ((Memref.whole main_arg2_scv).view.loc (V d (cV L) (jV L)) ↦{qc.left} ce)
        ∗ ((Memref.whole cc0_scratch0).view.loc (V d (cV L) (jV L)) ↦[lo.view.set]{fullShare.left} iB tg b)))
      (B := iprop((Memref.whole cc0_scratch0).view.loc (V d (cV L) (jV L)) ↦[Finset.univ \ lo.view.set]{fullShare.left} iB tg b))
      (C := G0 d L tg ce b qc 0) (join_list d L tg ce b qc)) $$ [Fg0 Hhil]
  · isplitl [Fg0] <;> iassumption
  ihave Hir := (whole_list d L tg b fullShare.right) $$ [Hlor Hhir]
  · isplitl [Hlor] <;> iassumption
  -- chunk 1
  iapply (gather_issue d L tg ce b htg 1 (Memref.whole cc0_scratch2) cc0_scratch7.sem (gB tg ce b 1) (setW _)
    (fun _ => View.write_whole_univ _ _ _) (by decide) g1 inb_S512_S64_64 (Finset.subset_univ _) qc.right fullShare.right _ _ _) $$ [-]
  isplitl [H2]; · iexact H2
  isplitl [Hcr]; · iexact Hcr
  isplitl [Hir]; · iexact Hir
  isplitl [Sg1]; · iexact Sg1
  iintro Fg1
  iapply (feat_issue d L fe b 1 (Memref.whole cc0_scratch4) cc0_scratch9.sem (fB fe b 1) (fun _ => View.write_whole_univ _ _ _)
    r1 (k0_off2_inb L 1) qf.right _ rfl (by decide) _ _) $$ [-]
  isplitl [H4]; · iexact H4
  isplitl [Hfr]; · iexact Hfr
  isplitl [Sf1]; · iexact Sf1
  iintro Ff1
  -- the loop
  iapply (Scf.wp_for_bind frame (wpE (defs₀ (F := F)) 𝒱₀ (V d (cV L) (jV L)) none) Set.univ _ _ _ k0_t1_ok
    (acc8 fe tg ce b (128 * 0)) _ (inv d L fe tg ce b qf qc O W) (fun k a => trip d L fe tg ce b qf qc htg hb O W _ k a)) $$ [Fg0 Ff0 Fg1 Ff1 HO]
  · iapply (inv_start d L fe tg ce b qf qc O W)
    isplitr; · iexact Hmw
    isplitl [Fg0]; · iexact Fg0
    isplitl [Ff0]; · iexact Ff0
    isplitl [Fg1]; · iexact Fg1
    isplitl [Ff1] <;> iassumption
  iintro %a Hinv
  ihave Hinv := (inv_end d L fe tg ce b qf qc O W a) $$ Hinv
  icases Hinv with ⟨%ha, ⟨%n1, H1, Hcl, Hil⟩, ⟨%n2, H3, Hfl⟩, Sg0, Sf0, ⟨%n3, H2, Hcr, Hir⟩, ⟨%n4, H4, Hfr⟩, Sg1, Sf1, HO⟩
  subst ha
  unfold debt
  icases HO with ⟨%W', %hW', HO⟩
  ihave H5 := (BIBase.Entails.rfl (P := ((Memref.whole cc0_scratch5).view.loc (V d (cV L) (jV L)) ↦{fullShare} f5 : sProp 𝕄))) $$ H5
  ihave Ho := (BIBase.Entails.rfl (P := ((outRow L).view.loc (V d (cV L) (jV L)) ↦[(outRow L).view.set]{fullShare} fo : sProp 𝕄))) $$ Ho
  sl_exec
  have hv : tile_run.sl.dma2 fe tg ce b f5 = part fe tg ce b :=
    View.read_writes_full (Val := Elt F) (Memref.whole cc0_scratch5 : Memref sig .scVector .vmem S16 .f32).view f5 inb_S16_S16_0
      (part fe tg ce b) []
  rw [hv]
  ihave Ho := (Entails.of_eq (pointsTo_congr (row_landed L fe tg ce b hb _ (row_read L _ fo)))) $$ Ho
  ihave Hc := (pointsTo_share (PosShare.mem_left_op_right qc)).2 $$ [Hcl Hcr]
  · isplitl [Hcl] <;> iassumption
  ihave Hf := (pointsTo_share (PosShare.mem_left_op_right qf)).2 $$ [Hfl Hfr]
  · isplitl [Hfl] <;> iassumption
  ihave H0 := (pointsTo_share (PosShare.mem_left_op_right fullShare)).2 $$ [Hil Hir]
  · isplitl [Hil] <;> iassumption
  sl_step
  isplitl [Hf Ht Hc]
  · isplitl [Hf]; · iexact Hf
    isplitl [Ht] <;> iassumption
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Sg0]; · iexact Sg0
  isplitl [Sg1]; · iexact Sg1
  isplitl [Sf0]; · iexact Sf0
  isplitl [Sf1]; · iexact Sf1
  isplitl [Sa]; · iexact Sa
  isplitl [Sb]; · iexact Sb
  isplitl [Sc]; · iexact Sc
  iexists _; isplitr
  swap; · iexact HO
  ipureintro; intro p hp
  rcases Finset.mem_insert.mp hp with hp | hp
  · exact .inr (hp ▸ rfl)
  · exact hW' p hp

end Cert.Proof.CenterLoss

end
-- ==== Proof.Launch.lean ====
/-
  What the launch hands each tile and takes back, and the task of a tile over it.
-/
module

public import proofs.«01_k».proof.Proof.Tile

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev fLoc (d : Dev nD) : Loc nD τ sig := (SparseCore.T d).loc main_arg0
abbrev tLoc (d : Dev nD) : Loc nD τ sig := (SparseCore.T d).loc main_arg1
abbrev cLoc (d : Dev nD) : Loc nD τ sig := (SparseCore.T d).loc main_arg2
abbrev oLoc (d : Dev nD) : Loc nD τ sig := (SparseCore.T d).loc main_v0
abbrev rLoc (d : Dev nD) : Loc nD τ sig := (SparseCore.T d).loc main_v4

/-- What the proof asks of the launch memory: every target names a class. -/
def PreOK : Prop := ∀ (d : Dev nD) (j : S16384.Idx), ((m (tLoc d) : S16384.Idx → BitVec 32) j).toNat < 100000

/-! ## The tiles and what each is handed -/

/-- The tile at subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's read share of an array every tile reads. -/
def sh (c : Fin 2) (i : Fin 16) : PosShare TreeShare :=
  Transfers.dealOf (Transfers.dealOf fullShare (Finset.univ : Finset (Fin 2)) c) (Finset.univ : Finset (Fin 16)) i

/-- The places of a tile's row of the partial sums. -/
abbrev rowSet (c : Fin 2) (i : Fin 16) : Finset S32x16.Idx := (outRow (coordsV c i)).view.set

theorem mem_outRow (L : grid0.Coords) (j : S32x16.Idx) : j ∈ (outRow L).view.set ↔ (j 0).val = 2 * (L 1).val + (L 0).val := by
  have e : (outRow L).view.set = (Rect.unit (s := S32x16) (k0_off24 L) S1x16.size (k0_off24_inb L)).set := by
    show (((View.whole (main_v0_scv : Ref sig .scVector)).slice (Rect.unit (s := S32x16) (k0_off24 L) S1x16.size (k0_off24_inb L))).reshape S16 squeezes_S1x16_S16.numel_eq).set = _
    rw [View.set_reshape, View.set_slice]; exact Finset.map_refl
  have e0 : k0_off24 L 0 = 2 * (L 1).val + (L 0).val := congrFun (k0_off24_eq L) 0
  have e1 : k0_off24 L 1 = 0 := congrFun (k0_off24_eq L) 1
  rw [e, Rect.mem_set_unit]
  constructor
  · intro h
    have h0 := h 0
    rw [e0] at h0
    have h1 : (j 0).val < 2 * (L 1).val + (L 0).val + 1 := h0.2
    have h2 := h0.1
    omega
  · intro h a
    match a with
    | 0 => rw [e0]; exact ⟨by omega, show (j 0).val < 2 * (L 1).val + (L 0).val + 1 by omega⟩
    | 1 => rw [e1]; exact ⟨Nat.zero_le _, show (j 1).val < 0 + 16 by have : (j 1).val < 16 := (j 1).isLt; omega⟩

theorem mem_rowSet (c : Fin 2) (i : Fin 16) (j : S32x16.Idx) : j ∈ rowSet c i ↔ (j 0).val = 2 * i.val + c.val :=
  mem_outRow (coordsV c i) j

theorem rows_disjoint : ∀ p ∈ (Finset.univ : Finset (Fin 2 × Fin 16)), ∀ p' ∈ (Finset.univ : Finset (Fin 2 × Fin 16)), p ≠ p' →
    Disjoint (rowSet p.1 p.2) (rowSet p'.1 p'.2) := by
  intro p _ p' _ hne
  refine Finset.disjoint_left.mpr fun j h h' => hne ?_
  have a := (mem_rowSet _ _ j).mp h
  have a' := (mem_rowSet _ _ j).mp h'
  have := p.1.isLt
  have := p'.1.isLt
  exact Prod.ext (Fin.ext (by omega)) (Fin.ext (by omega))

theorem rows_cover : (Finset.univ : Finset (Fin 2 × Fin 16)).biUnion (fun p => rowSet p.1 p.2) = Finset.univ := by
  ext j
  simp only [Finset.mem_biUnion, Finset.mem_univ, true_and, iff_true]
  have hj : (j 0).val < 32 := (j 0).isLt
  exact ⟨(⟨(j 0).val % 2, by omega⟩, ⟨(j 0).val / 2, by omega⟩),
    (mem_rowSet _ _ j).mpr (show (j 0).val = 2 * ((j 0).val / 2) + (j 0).val % 2 by omega)⟩

/-- An array every tile reads, dealt to the tiles. -/
theorem dealt {ℓ : Loc nD τ sig} (f : Buf (Elt F) ℓ) :
    (ℓ ↦{fullShare} f : sProp 𝕄)
      = bigSep Finset.univ fun c : Fin 2 => bigSep Finset.univ fun i : Fin 16 => (ℓ ↦{sh c i} f : sProp 𝕄) := by
  rw [Transfers.pointsTo_deal (Finset.univ : Finset (Fin 2)) Finset.univ_nonempty fullShare]
  refine bigSep_congr fun c _ => ?_
  exact Transfers.pointsTo_deal (Finset.univ : Finset (Fin 16)) Finset.univ_nonempty _

/-- The output array is its rows. -/
theorem out_rows (d : Dev nD) (f : Buf (Elt F) (oLoc d)) :
    (oLoc d ↦{fullShare} f : sProp 𝕄)
      = bigSep Finset.univ fun c : Fin 2 => bigSep Finset.univ fun i : Fin 16 => (oLoc d ↦[rowSet c i]{fullShare} f : sProp 𝕄) := by
  rw [← bigSep_univ_prod (fun p : Fin 2 × Fin 16 => (oLoc d ↦[rowSet p.1 p.2]{fullShare} f : sProp 𝕄)),
    ← pointsTo_biUnion Finset.univ (ℓ := oLoc d) (fun p : Fin 2 × Fin 16 => rowSet p.1 p.2) rows_disjoint, rows_cover]; try rfl

/-- A tile's shares of the three arrays, and its row of the output at `g`. -/
abbrev tileRes (d : Dev nD) (g : Buf (Elt F) (oLoc d)) (c : Fin 2) (i : Fin 16) : sProp 𝕄 :=
  iprop((fLoc d ↦{sh c i} m (fLoc d)) ∗ (tLoc d ↦{sh c i} m (tLoc d)) ∗ (cLoc d ↦{sh c i} m (cLoc d))
    ∗ (oLoc d ↦[rowSet c i]{fullShare} g))

/-- The arrays whole are the tiles' resources together. -/
theorem deal_all (d : Dev nD) (g : Buf (Elt F) (oLoc d)) :
    (iprop((fLoc d ↦{fullShare} m (fLoc d)) ∗ (tLoc d ↦{fullShare} m (tLoc d)) ∗ (cLoc d ↦{fullShare} m (cLoc d))
        ∗ (oLoc d ↦{fullShare} g)) : sProp 𝕄)
      = bigSep Finset.univ fun c : Fin 2 => bigSep Finset.univ fun i : Fin 16 => tileRes m d g c i := by
  rw [dealt (m (fLoc d)), dealt (m (tLoc d)), dealt (m (cLoc d)), out_rows, ← bigSep_sep', ← bigSep_sep', ← bigSep_sep']
  refine bigSep_congr fun c _ => ?_
  rw [← bigSep_sep', ← bigSep_sep', ← bigSep_sep']

/-- The partial sums the tiles leave. -/
abbrev outOf (d : Dev nD) : S32x16.Idx → F .f32 := outB (m (fLoc d)) (m (tLoc d)) (m (cLoc d))

theorem nCore_zero : (K (F := F)).nCore 0 = 2 := rfl
theorem nSub_zero : (K (F := F)).nSub 0 = 16 := rfl

/-- What each SparseCore is handed and hands back. -/
abbrev coreRes (d : Dev nD) (g : Buf (Elt F) (oLoc d)) (c : Fin 2) : sProp 𝕄 :=
  bigSep Finset.univ fun i : Fin 16 => tileRes m d g c i

/-- What the call's handshakes carry: each tile its shares and its row, back with the row at its partial sums. -/
def P : (K (F := F)).Pay (nD := nD) (Val := Elt F) (Name := ℕ) (U := UU) where
  st := fun q d c => match q with | 0 => coreRes m d (m (oLoc d)) (Fin.cast nCore_zero c)
  dn := fun q d c => match q with | 0 => coreRes m d (outOf m d) (Fin.cast nCore_zero c)
  go := fun q d c i => match q with | 0 => tileRes m d (m (oLoc d)) (Fin.cast nCore_zero c) (Fin.cast nSub_zero i)
  td := fun q d c i => match q with | 0 => tileRes m d (outOf m d) (Fin.cast nCore_zero c) (Fin.cast nSub_zero i)
  x := fun _ _ => iprop(emp)

instance P_storable : (P (F := F) m).IsStorable where
  st q d c := match q with
    | 0 => (inferInstance : BI.Storable (upEmb : UEmb _ 𝕄) (coreRes m d (m (oLoc d)) (Fin.cast nCore_zero c)))
  dn q d c := match q with
    | 0 => (inferInstance : BI.Storable (upEmb : UEmb _ 𝕄) (coreRes m d (outOf m d) (Fin.cast nCore_zero c)))
  go q d c i := match q with
    | 0 => (inferInstance : BI.Storable (upEmb : UEmb _ 𝕄) (tileRes m d (m (oLoc d)) (Fin.cast nCore_zero c) (Fin.cast nSub_zero i)))
  td q d c i := match q with
    | 0 => (inferInstance : BI.Storable (upEmb : UEmb _ 𝕄) (tileRes m d (outOf m d) (Fin.cast nCore_zero c) (Fin.cast nSub_zero i)))

/-! ## The task as the launch theorem takes it -/

section Tile

variable (d : Dev nD) (L : grid0.Coords)

/-- The cell of a semaphore of the tile. -/
abbrev dcell (sm : DmaSem sig) : GSem nD τ sig := (V d (cV L) (jV L), SemLoc.dma sm)

theorem own_dcell (sm : DmaSem sig) (h : (SemLoc.dma sm : SemLoc sig).isScoped .scVector = true) :
    dcell d L sm ∈ ownCells (V d (cV L) (jV L)) := mem_ownCells.mpr ⟨rfl, h⟩

theorem dcell_ne {a b : DmaSem sig} (h : a ≠ b) : dcell d L a ≠ dcell d L b :=
  fun e => h (SemLoc.dma.inj (Prod.mk.inj e).2)

/-- The seven semaphores the task uses, beside the tile's others. -/
theorem ownSems0_V :
    (ownSems0 (V d (cV L) (jV L)) : sProp 𝕄)
      = iprop(semVal (dcell d L cc0_scratch6.sem) 0 ∗ semVal (dcell d L cc0_scratch7.sem) 0 ∗ semVal (dcell d L cc0_scratch8.sem) 0 ∗ semVal (dcell d L cc0_scratch9.sem) 0 ∗ semVal (dcell d L cc0_scoped0.sem) 0 ∗ semVal (dcell d L cc0_scoped1.sem) 0 ∗ semVal (dcell d L cc0_scoped2.sem) 0
          ∗ bigSep ((((((((ownCells (V d (cV L) (jV L))).erase (dcell d L cc0_scratch6.sem)).erase (dcell d L cc0_scratch7.sem)).erase (dcell d L cc0_scratch8.sem)).erase (dcell d L cc0_scratch9.sem)).erase (dcell d L cc0_scoped0.sem)).erase (dcell d L cc0_scoped1.sem)).erase (dcell d L cc0_scoped2.sem)) fun g => semVal g 0) := by
  unfold SparseCore.Cfg.ownSems0
  rw [SparseCore.bigSep_erase' (own_dcell d L cc0_scratch6.sem (by decide)),
    SparseCore.bigSep_erase' (Finset.mem_erase.mpr ⟨dcell_ne d L (by decide), (own_dcell d L cc0_scratch7.sem (by decide))⟩),
    SparseCore.bigSep_erase' (Finset.mem_erase.mpr ⟨dcell_ne d L (by decide), (Finset.mem_erase.mpr ⟨dcell_ne d L (by decide), (own_dcell d L cc0_scratch8.sem (by decide))⟩)⟩),
    SparseCore.bigSep_erase' (Finset.mem_erase.mpr ⟨dcell_ne d L (by decide), (Finset.mem_erase.mpr ⟨dcell_ne d L (by decide), (Finset.mem_erase.mpr ⟨dcell_ne d L (by decide), (own_dcell d L cc0_scratch9.sem (by decide))⟩)⟩)⟩),
    SparseCore.bigSep_erase' (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (own_dcell d L cc0_scoped0.sem (by decide))⟩)⟩)⟩)⟩),
    SparseCore.bigSep_erase' (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (own_dcell d L cc0_scoped1.sem (by decide))⟩)⟩)⟩)⟩)⟩),
    SparseCore.bigSep_erase' (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (Finset.mem_erase.mpr ⟨dcell_ne d L (by decide), (own_dcell d L cc0_scoped2.sem (by decide))⟩)⟩)⟩)⟩)⟩)⟩)]

/-- The six buffers the task uses, beside the tile's others. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩)]

/-- A run, with what is held beside it used at its end. -/
theorem wp_framed (d : Dev nD) (L : grid0.Coords) {β : Type} {A : sProp 𝕄} {Q Q' : β → sProp 𝕄}
    {p : Prog (TpuEff nD τ sig (Elt F) Λ₀ (.scVector (cV L) (jV L))) β}
    (h : A ⊢ wp frame (wpE (defs₀ (F := F)) 𝒱₀ (V d (cV L) (jV L)) none) Set.univ p Q) :
    iprop(A ∗ (∀ u, Q u -∗ Q' u)) ⊢ wp frame (wpE (defs₀ (F := F)) 𝒱₀ (V d (cV L) (jV L)) none) Set.univ p Q' := by
  iintro ⟨HA, HK⟩
  ihave Hw := h $$ HA
  iapply (wp_wand_r frame _ Set.univ) $$ [-]
  isplitl [Hw] <;> iassumption

/-- The task with the resources the launch hands it. -/
theorem tile_body (hF : (K (F := F)).Facts) (hpre : PreOK m) (O : CellTallies nD τ sig (HIx 1)) (W : Waits sig (HIx 1)) (hO : ∀ g, O g none = 0)
    (c : Fin 2) (i : Fin 16) :
    iprop(levAts (K (F := F)).L (K (F := F)).lev ∗ emp ∗ tileRes m d (m (oLoc d)) c i
        ∗ scopedBufs (V d (cV (coordsV c i)) (jV (coordsV c i))) ∗ scopedSems0 (V d (cV (coordsV c i)) (jV (coordsV c i)))
        ∗ owes (V d (cV (coordsV c i)) (jV (coordsV c i))) O W)
      ⊢ wp frame (wpE (defs₀ (F := F)) 𝒱₀ (V d (cV (coordsV c i)) (jV (coordsV c i))) none) Set.univ
          (cc0_sck (coordsV c i) (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2)
          fun _ => iprop(tileRes m d (outOf m d) c i
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)),
    SparseCore.Cfg.scopedSems0_V (Val := Elt F) d (cV (coordsV c i)) (jV (coordsV c i)), ownSems0_V, ownBufs_V]
  iintro ⟨#Hlv, -, ⟨Hf, Ht, Hc, Ho⟩, ⟨⟨%f0, H0⟩, ⟨%f1, H1⟩, ⟨%f2, H2⟩, ⟨%f3, H3⟩, ⟨%f4, H4⟩, ⟨%f5, H5⟩, Hbufs⟩, ⟨S0, S1, S2, S3, S4, S5, S6, Hsems⟩, HO⟩
  ihave Hmw := (show levAts (K (F := F)).L (K (F := F)).lev ⊢ Transfers.MayWaits (V d (cV (coordsV c i)) (jV (coordsV c i))) (default : HIx 1) O from
    (K (F := F)).mayWaits_none (thr := V d (cV (coordsV c i)) (jV (coordsV c i))) hO) $$ Hlv
  iapply (wp_framed d (coordsV c i) (tile_run d (coordsV c i) (m (fLoc d)) (m (tLoc d)) (m (cLoc d)) (1024 * i.val + 512 * c.val) (sh c i) (sh c i) (sh c i)
    (hpre d) rfl O W (m (oLoc d)) f0 f1 f2 f3 f4 f5)) $$ [-]
  isplitl [Hf Ht Hc Ho H0 H1 H2 H3 H4 H5 S0 S1 S2 S3 S4 S5 S6 HO]
  · isplitr; · iexact Hmw
    isplitl [Hf Ht Hc]
    · isplitl [Hf]; · iexact Hf
      isplitl [Ht]; · iexact Ht
      iexact Hc
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    isplitl [S6]; · iexact S6
    unfold debt
    iexists _; isplitr
    swap; · iexact HO
    ipureintro; exact fun p hp => .inl hp
  iintro %u ⟨⟨Hf, Ht, Hc⟩, Ho, H0, H1, H2, H3, H4, H5, S0, S1, S2, S3, S4, S5, S6, HO⟩
  isplitl [Hf Ht Hc Ho]
  · isplitl [Hf]; · iexact Hf
    isplitl [Ht]; · iexact Ht
    isplitl [Hc]; · iexact Hc
    iexact Ho
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [S0 S1 S2 S3 S4 S5 S6 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  unfold debt
  iexact HO

end Tile

end Cert.Proof.CenterLoss

end
-- ==== Proof.Main.lean ====
/-
  The whole program's run: every tile of the one SparseCore call, then the host's operations on the partial sums.
-/
module

public import proofs.«01_k».proof.Proof.Launch
public import Idealize.ShloMosaic.Lib.StableHlo.Run

@[expose] public section

noncomputable section

namespace Cert.Proof.CenterLoss

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem defs₀_vector (c : Fin τ.nSC) (s : Fin τ.nSub) :
    defs₀ (F := F) (.scVector c s) 0 ()
      = SparseCore.onTile hcore0 hsub0 (fun c s => cc0_sck (coordsV c s) (Memref.whole main_arg0_scv) (Memref.isWhole_whole _) (Memref.whole main_arg1_scv) (Memref.isWhole_whole _)
              (Memref.whole main_arg2_scv) (Memref.isWhole_whole _) (Memref.whole main_v0_scv) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 cc0_scratch9 cc0_scoped0 cc0_scoped1 cc0_scoped2) ⟨⟩ c s := rfl

/-- A debt the task settled, as the call reads it. -/
theorem settled {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  swap; · iexact HO
  ipureintro; exact fun p hp => (hW p hp).elim .inl fun h => .inr (.inl h)

set_option maxRecDepth 16384 in
/-- Every tile's task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d hF hpre O W hO (Fin.cast nCore_zero c) (Fin.cast nSub_zero i)).trans (wp_mono frame _ _ fun _ => settled)

theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tiles' shares. -/
theorem vecSplit : (K (F := F)).VecSplit' (P m) 0 := by
  intro d c
  show coreRes m d (m (oLoc d)) (Fin.cast nCore_zero c) ⊢ |={Set.univ}=> iprop(
      (bigSep Finset.univ fun i : Fin ((K (F := F)).nSub 0) => tileRes m d (m (oLoc d)) (Fin.cast nCore_zero c) (Fin.cast nSub_zero i))
      ∗ ((bigSep Finset.univ fun i : Fin ((K (F := F)).nSub 0) => tileRes m d (outOf m d) (Fin.cast nCore_zero c) (Fin.cast nSub_zero i))
          -∗ coreRes m d (outOf m d) (Fin.cast nCore_zero c)))
  rw [over_tasks (F := F) (fun i => tileRes m d (m (oLoc d)) (Fin.cast nCore_zero c) i),
    over_tasks (F := F) (fun i => tileRes m d (outOf m d) (Fin.cast nCore_zero c) i)]
  iintro H; imodintro
  isplitl [H]; · iexact H
  iintro H; iexact H

/-! ## The launch element of the certificate's ghost state -/

/-- Nothing, many times. -/
theorem nothing_over {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_over]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_over]
  iempintro

/-! ## The TensorCore's program -/

abbrev bO : DevRef τ sig := Proc.devRef .tc (main_v0 : Ref sig .tc)
abbrev bZ : DevRef τ sig := Proc.devRef .tc (main_cst : Ref sig .tc)
abbrev bS : DevRef τ sig := Proc.devRef .tc (main_v1 : Ref sig .tc)
abbrev bH : DevRef τ sig := Proc.devRef .tc (main_cst_0 : Ref sig .tc)
abbrev bP : DevRef τ sig := Proc.devRef .tc (main_v2 : Ref sig .tc)
abbrev bD : DevRef τ sig := Proc.devRef .tc (main_cst_1 : Ref sig .tc)
abbrev bQ : DevRef τ sig := Proc.devRef .tc (main_v3 : Ref sig .tc)
abbrev bN : DevRef τ sig := Proc.devRef .tc (main_cst_2 : Ref sig .tc)
abbrev bR : DevRef τ sig := Proc.devRef .tc (main_v4 : Ref sig .tc)

abbrev opZ : HloOp τ sig (Elt F) := StableHlo.nullary main_cst (constant S_ .f32 0x00000000#32)
abbrev opS : HloOp τ sig (Elt F) := StableHlo.binary main_v0 main_cst main_v1 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opH : HloOp τ sig (Elt F) := StableHlo.nullary main_cst_0 (constant S_ .f32 0x3F000000#32)
abbrev opP : HloOp τ sig (Elt F) := StableHlo.binary main_cst_0 main_v1 main_v2 (mulf : (⟨S_, .f32⟩ : BufTy).Contents (Elt F) → (⟨S_, .f32⟩ : BufTy).Contents (Elt F) → (⟨S_, .f32⟩ : BufTy).Contents (Elt F))
abbrev opD : HloOp τ sig (Elt F) := StableHlo.nullary main_cst_1 (constant S_ .f32 0x40000000#32)
abbrev opQ : HloOp τ sig (Elt F) := StableHlo.binary main_v2 main_cst_1 main_v3 (Host.divf : (⟨S_, .f32⟩ : BufTy).Contents (Elt F) → (⟨S_, .f32⟩ : BufTy).Contents (Elt F) → (⟨S_, .f32⟩ : BufTy).Contents (Elt F))
abbrev opN : HloOp τ sig (Elt F) := StableHlo.nullary main_cst_2 (constant S_ .f32 0x46800000#32)
abbrev opR : HloOp τ sig (Elt F) := StableHlo.binary main_v3 main_cst_2 main_v4 (Host.divf : (⟨S_, .f32⟩ : BufTy).Contents (Elt F) → (⟨S_, .f32⟩ : BufTy).Contents (Elt F) → (⟨S_, .f32⟩ : BufTy).Contents (Elt F))

/-- The arrays the host's operations read and write. -/
abbrev S9 : Finset (DevRef τ sig) := {bO, bZ, bS, bH, bP, bD, bQ, bN, bR}

theorem held_S9 (d : Dev nD) (W : Valuation τ sig (Elt F)) :
    (held (T d) S9 W : sProp 𝕄)
      = iprop(((SparseCore.T d).loc main_v0 ↦{fullShare} W bO) ∗ ((SparseCore.T d).loc main_cst ↦{fullShare} W bZ) ∗ ((SparseCore.T d).loc main_v1 ↦{fullShare} W bS) ∗ ((SparseCore.T d).loc main_cst_0 ↦{fullShare} W bH) ∗ ((SparseCore.T d).loc main_v2 ↦{fullShare} W bP) ∗ ((SparseCore.T d).loc main_cst_1 ↦{fullShare} W bD) ∗ ((SparseCore.T d).loc main_v3 ↦{fullShare} W bQ) ∗ ((SparseCore.T d).loc main_cst_2 ↦{fullShare} W bN) ∗ ((SparseCore.T d).loc main_v4 ↦{fullShare} W bR)) := by
  unfold held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((fLoc d ↦{fullShare} W main_arg0) ∗ (tLoc d ↦{fullShare} W main_arg1) ∗ (cLoc d ↦{fullShare} W main_arg2)
        ∗ ((SparseCore.T d).loc main_v0 ↦{fullShare} W main_v0) ∗ ((SparseCore.T d).loc main_cst ↦{fullShare} W main_cst) ∗ ((SparseCore.T d).loc main_v1 ↦{fullShare} W main_v1) ∗ ((SparseCore.T d).loc main_cst_0 ↦{fullShare} W main_cst_0) ∗ ((SparseCore.T d).loc main_v2 ↦{fullShare} W main_v2) ∗ ((SparseCore.T d).loc main_cst_1 ↦{fullShare} W main_cst_1) ∗ ((SparseCore.T d).loc main_v3 ↦{fullShare} W main_v3) ∗ ((SparseCore.T d).loc main_cst_2 ↦{fullShare} W main_cst_2) ∗ ((SparseCore.T d).loc main_v4 ↦{fullShare} W main_v4)) := by
  unfold unscopedBufs
  rw [show (Finset.univ.filter fun b : Ref sig .tc => ¬ b.isScoped) = {main_arg0, main_arg1, main_arg2, main_v0, main_cst, main_v1, main_cst_0, main_v2, main_cst_1, main_v3, main_cst_2, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The arrays' contents after the call, and after each of the host's operations. -/
def W0 (d : Dev nD) : Valuation τ sig (Elt F) := Function.update (fun b => m (d, b)) bO (outOf m d)
abbrev W1 (d : Dev nD) : Valuation τ sig (Elt F) := (opZ (F := F)).result (W0 m d)
abbrev W2 (d : Dev nD) : Valuation τ sig (Elt F) := (opS (F := F)).result (W1 m d)
abbrev W3 (d : Dev nD) : Valuation τ sig (Elt F) := (opH (F := F)).result (W2 m d)
abbrev W4 (d : Dev nD) : Valuation τ sig (Elt F) := (opP (F := F)).result (W3 m d)
abbrev W5 (d : Dev nD) : Valuation τ sig (Elt F) := (opD (F := F)).result (W4 m d)
abbrev W6 (d : Dev nD) : Valuation τ sig (Elt F) := (opQ (F := F)).result (W5 m d)
abbrev W7 (d : Dev nD) : Valuation τ sig (Elt F) := (opN (F := F)).result (W6 m d)
abbrev W8 (d : Dev nD) : Valuation τ sig (Elt F) := (opR (F := F)).result (W7 m d)

/-- The loss: half the sum of the partial sums, over two, over the number of samples. -/
def Rv (d : Dev nD) : S_.Idx → F .f32 :=
  Host.divf (Host.divf (mulf (constant S_ .f32 0x3F000000#32) (Host.reduceAdd (outOf m d) (constant S_ .f32 0x00000000#32) reducesTo_S32x16_S_d0_1 h_S_))
    (constant S_ .f32 0x40000000#32)) (constant S_ .f32 0x46800000#32)

theorem last (d : Dev nD) : W8 m d bR = Rv m d := by
  unfold Rv
  refine (StableHlo.binary_result' _ _ _ _ _).trans ?_
  rw [show W7 m d (Proc.devRef .tc main_v3) = _ from (StableHlo.nullary_result_ne _ _ _ _ (by decide)).trans (StableHlo.binary_result' _ _ _ _ _),
    show W7 m d (Proc.devRef .tc main_cst_2) = _ from StableHlo.nullary_result' _ _ _,
    show W5 m d (Proc.devRef .tc main_v2) = _ from (StableHlo.nullary_result_ne _ _ _ _ (by decide)).trans (StableHlo.binary_result' _ _ _ _ _),
    show W5 m d (Proc.devRef .tc main_cst_1) = _ from StableHlo.nullary_result' _ _ _,
    show W3 m d (Proc.devRef .tc main_v1) = _ from (StableHlo.nullary_result_ne _ _ _ _ (by decide)).trans (StableHlo.binary_result' _ _ _ _ _),
    show W3 m d (Proc.devRef .tc main_cst_0) = _ from StableHlo.nullary_result' _ _ _,
    show W1 m d (Proc.devRef .tc main_v0) = outOf m d from (StableHlo.nullary_result_ne _ _ _ _ (by decide)).trans (Function.update_self _ _ _),
    show W1 m d (Proc.devRef .tc main_cst) = _ from StableHlo.nullary_result' _ _ _]

theorem withinZ : (opZ (F := F)).bufs ⊆ S9 := show ({bZ} : Finset (DevRef τ sig)) ⊆ S9 by decide
theorem withinS : (opS (F := F)).bufs ⊆ S9 := show ({bO, bZ, bS} : Finset (DevRef τ sig)) ⊆ S9 by decide
theorem withinH : (opH (F := F)).bufs ⊆ S9 := show ({bH} : Finset (DevRef τ sig)) ⊆ S9 by decide
theorem withinP : (opP (F := F)).bufs ⊆ S9 := show ({bH, bS, bP} : Finset (DevRef τ sig)) ⊆ S9 by decide
theorem withinD : (opD (F := F)).bufs ⊆ S9 := show ({bD} : Finset (DevRef τ sig)) ⊆ S9 by decide
theorem withinQ : (opQ (F := F)).bufs ⊆ S9 := show ({bP, bD, bQ} : Finset (DevRef τ sig)) ⊆ S9 by decide
theorem withinN : (opN (F := F)).bufs ⊆ S9 := show ({bN} : Finset (DevRef τ sig)) ⊆ S9 by decide
theorem withinR : (opR (F := F)).bufs ⊆ S9 := show ({bQ, bN, bR} : Finset (DevRef τ sig)) ⊆ S9 by decide

/-- What the program leaves the claims: the arguments at their launch contents, the result at the loss. -/
abbrev FIN (d : Dev nD) : sProp 𝕄 :=
  iprop((fLoc d ↦{fullShare} m (fLoc d)) ∗ (tLoc d ↦{fullShare} m (tLoc d)) ∗ (cLoc d ↦{fullShare} m (cLoc d)) ∗ (rLoc d ↦{fullShare} Rv m d))

theorem st0_eq (d : Dev nD) : (bigSep Finset.univ fun c : Fin ((K (F := F)).nCore 0) => (P m).st 0 d c)
    = (iprop((fLoc d ↦{fullShare} m (fLoc d)) ∗ (tLoc d ↦{fullShare} m (tLoc d)) ∗ (cLoc d ↦{fullShare} m (cLoc d)) ∗ (oLoc d ↦{fullShare} m (oLoc d))) : sProp 𝕄) :=
  (over_cores (F := F) (coreRes m d (m (oLoc d)))).trans (deal_all m d (m (oLoc d))).symm

theorem dn0_eq (d : Dev nD) : (bigSep Finset.univ fun c : Fin ((K (F := F)).nCore 0) => (P m).dn 0 d c)
    = (iprop((fLoc d ↦{fullShare} m (fLoc d)) ∗ (tLoc d ↦{fullShare} m (tLoc d)) ∗ (cLoc d ↦{fullShare} m (cLoc d)) ∗ (oLoc d ↦{fullShare} outOf m d)) : sProp 𝕄) :=
  (over_cores (F := F) (coreRes m d (outOf m d))).trans (deal_all m d (outOf m d)).symm

/-- The arrays after the call, put together for the host's operations. -/
theorem gather_held (d : Dev nD) :
    (iprop((oLoc d ↦{fullShare} outOf m d) ∗ ((SparseCore.T d).loc main_cst ↦{fullShare} m ((SparseCore.T d).loc main_cst)) ∗ ((SparseCore.T d).loc main_v1 ↦{fullShare} m ((SparseCore.T d).loc main_v1)) ∗ ((SparseCore.T d).loc main_cst_0 ↦{fullShare} m ((SparseCore.T d).loc main_cst_0)) ∗ ((SparseCore.T d).loc main_v2 ↦{fullShare} m ((SparseCore.T d).loc main_v2)) ∗ ((SparseCore.T d).loc main_cst_1 ↦{fullShare} m ((SparseCore.T d).loc main_cst_1)) ∗ ((SparseCore.T d).loc main_v3 ↦{fullShare} m ((SparseCore.T d).loc main_v3)) ∗ ((SparseCore.T d).loc main_cst_2 ↦{fullShare} m ((SparseCore.T d).loc main_cst_2)) ∗ ((SparseCore.T d).loc main_v4 ↦{fullShare} m ((SparseCore.T d).loc main_v4))) : sProp 𝕄)
      = held (T d) S9 (W0 m d) := by
  rw [held_S9]
  rw [show W0 m d bO = outOf m d from Function.update_self _ _ _,
    show W0 m d bZ = m ((SparseCore.T d).loc main_cst) from Function.update_of_ne (by decide) _ _, show W0 m d bS = m ((SparseCore.T d).loc main_v1) from Function.update_of_ne (by decide) _ _, show W0 m d bH = m ((SparseCore.T d).loc main_cst_0) from Function.update_of_ne (by decide) _ _, show W0 m d bP = m ((SparseCore.T d).loc main_v2) from Function.update_of_ne (by decide) _ _, show W0 m d bD = m ((SparseCore.T d).loc main_cst_1) from Function.update_of_ne (by decide) _ _, show W0 m d bQ = m ((SparseCore.T d).loc main_v3) from Function.update_of_ne (by decide) _ _, show W0 m d bN = m ((SparseCore.T d).loc main_cst_2) from Function.update_of_ne (by decide) _ _, show W0 m d bR = m ((SparseCore.T d).loc main_v4) from Function.update_of_ne (by decide) _ _]

/-- The TensorCore's program on device `d`: the call, from the arrays whole, then the eight operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hf, Ht, Hc, HO, HZ, HS, HH, HP, HD, HQ, HN, HR⟩, Hts, -⟩, -⟩
  iapply ((K (F := F)).wp_run (D (F := F)) 𝒱 (EH := EH) (P := P m) κ d 0) $$ [Hst Hb Hts Hf Ht Hc HO HZ HS HH HP HD HQ HN HR]
  isplitr; · iexact Hctx
  isplitl [Hst]; · iexact Hst
  isplitl [Hf Ht Hc HO]
  · rw [st0_eq]
    isplitl [Hf]; · iexact Hf
    isplitl [Ht]; · iexact Ht
    isplitl [Hc]; · iexact Hc
    iexact HO
  iintro ⟨Hst, Hdn⟩
  ihave Hdn' := (Entails.of_eq (dn0_eq m d)) $$ Hdn
  icases Hdn' with ⟨Hf, Ht, Hc, HO⟩
  ihave Hheld := (Entails.of_eq (gather_held m d)) $$ [HO HZ HS HH HP HD HQ HN HR]
  · isplitl [HO]; · iexact HO
    isplitl [HZ]; · iexact HZ
    isplitl [HS]; · iexact HS
    isplitl [HH]; · iexact HH
    isplitl [HP]; · iexact HP
    isplitl [HD]; · iexact HD
    isplitl [HQ]; · iexact HQ
    isplitl [HN]; · iexact HN
    iexact HR
  iapply (wp_hlo_within 𝒱 (SparseCore.T d) none Set.univ (op := opZ) (S := S9) withinZ (V := W0 m d)) $$ [Hb Hheld]
  · isplitl [Hb] <;> iassumption
  iintro ⟨Hb, Hheld⟩
  rw [wp_ret]; imodintro
  iapply (wp_hlo_within 𝒱 (SparseCore.T d) none Set.univ (op := opS) (S := S9) withinS (V := W1 m d)) $$ [Hb Hheld]
  · isplitl [Hb] <;> iassumption
  iintro ⟨Hb, Hheld⟩
  rw [wp_ret]; imodintro
  iapply (wp_hlo_within 𝒱 (SparseCore.T d) none Set.univ (op := opH) (S := S9) withinH (V := W2 m d)) $$ [Hb Hheld]
  · isplitl [Hb] <;> iassumption
  iintro ⟨Hb, Hheld⟩
  rw [wp_ret]; imodintro
  iapply (wp_hlo_within 𝒱 (SparseCore.T d) none Set.univ (op := opP) (S := S9) withinP (V := W3 m d)) $$ [Hb Hheld]
  · isplitl [Hb] <;> iassumption
  iintro ⟨Hb, Hheld⟩
  rw [wp_ret]; imodintro
  iapply (wp_hlo_within 𝒱 (SparseCore.T d) none Set.univ (op := opD) (S := S9) withinD (V := W4 m d)) $$ [Hb Hheld]
  · isplitl [Hb] <;> iassumption
  iintro ⟨Hb, Hheld⟩
  rw [wp_ret]; imodintro
  iapply (wp_hlo_within 𝒱 (SparseCore.T d) none Set.univ (op := opQ) (S := S9) withinQ (V := W5 m d)) $$ [Hb Hheld]
  · isplitl [Hb] <;> iassumption
  iintro ⟨Hb, Hheld⟩
  rw [wp_ret]; imodintro
  iapply (wp_hlo_within 𝒱 (SparseCore.T d) none Set.univ (op := opN) (S := S9) withinN (V := W6 m d)) $$ [Hb Hheld]
  · isplitl [Hb] <;> iassumption
  iintro ⟨Hb, Hheld⟩
  rw [wp_ret]; imodintro
  iapply (wp_hlo_within 𝒱 (SparseCore.T d) none Set.univ (op := opR) (S := S9) withinR (V := W7 m d)) $$ [Hb Hheld]
  · isplitl [Hb] <;> iassumption
  iintro ⟨Hb, Hheld⟩
  rw [wp_ret]; imodintro
  ihave Hh := (Entails.of_eq (held_S9 (F := F) d (W8 m d))) $$ Hheld
  rw [last]
  icases Hh with ⟨-, -, -, -, -, -, -, -, HR⟩
  imodintro
  isplitl [Hst]; · iexact Hst
  isplitr [Hb Hts]
  · isplitl [Hf]; · iexact Hf
    isplitl [Ht]; · iexact Ht
    isplitl [Hc]; · iexact Hc
    iexact HR
  isplitl [Hb] <;> iassumption

/-- What the claims read of device `d`'s final state. -/
def fq (d : Dev nD) (s' : Phys nD τ sig (Elt F)) : Prop :=
  s'.mem.mem (fLoc d) = m (fLoc d) ∧ s'.mem.mem (tLoc d) = m (tLoc d) ∧ s'.mem.mem (cLoc d) = m (cLoc d) ∧ s'.mem.mem (rLoc d) = Rv m d

/-- An array held whole is the state's. -/
theorem agrees {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hf, Ht, Hc, Hr⟩, HSI⟩
  ihave H := (agrees s') $$ [HSI Hf]
  · isplitl [Hf] <;> iassumption
  icases H with ⟨%hf, HSI⟩
  ihave H := (agrees s') $$ [HSI Ht]
  · isplitl [Ht] <;> iassumption
  icases H with ⟨%ht, HSI⟩
  ihave H := (agrees s') $$ [HSI Hc]
  · isplitl [Hc] <;> iassumption
  icases H with ⟨%hc, HSI⟩
  ihave H := (agrees s') $$ [HSI Hr]
  · isplitl [Hr] <;> iassumption
  icases H with ⟨%hr, HSI⟩
  ipureintro; exact ⟨hf, ht, hc, hr⟩

/-! ## The program's run -/

/-- The final states: the arguments unchanged, the result the loss, every semaphore at zero. -/
def QC : PUnit × MemSt nD τ sig (Elt F) → Prop := fun r =>
  (∀ d : Dev nD, r.2.mem (fLoc d) = m (fLoc d) ∧ r.2.mem (tLoc d) = m (tLoc d) ∧ r.2.mem (cLoc d) = m (cLoc d) ∧ r.2.mem (rLoc d) = Rv m d)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.CenterLoss

end
-- ==== Proof.Range.lean ====
/-
  Conjunctions over an array of bits, and what the precondition gives: every target names a class.
-/
module

public import proofs.«01_k».proof.Proof.Main
public import Idealize.ShloMosaic.Lib.WordCmp
public import Idealize.ShloMosaic.PureOps.Reduce

@[expose] public section

noncomputable section

namespace Cert.Proof.CenterLoss

open Cert.KernelIdeal
open Idealize.ShloMosaic Idealize.ShloMosaic.WordCmp

/-- The conjunction of two bits is set when both are. -/
theorem both_bits (p q : BitVec 1) : IntOp.andi p q = 1#1 ↔ p = 1#1 ∧ q = 1#1 := by revert p q; decide

/-- The conjunction of a set of bits is set when all are. -/
theorem all_bits {ι : Type} (S : Finset ι) (x : ι → BitVec 1) : S.fold IntOp.andi 1#1 x = 1#1 ↔ ∀ i ∈ S, x i = 1#1 := by
  classical
  induction S using Finset.induction_on with
  | empty => simp
  | insert a S ha ih => rw [Finset.fold_insert ha, both_bits, ih, Finset.forall_mem_insert]

/-- A reduction by conjunction from a set bit is set at `j` when every bit it reads is. -/
theorem reduce_bits {s t u : Shape} {axes : List (Fin s.rank)} (x : s.Idx → BitVec 1) (h : s.ReducesTo axes t) (hu : 0 < u.numel) (j : t.Idx) :
    Host.reduce IntOp.andi x (constantI u 1 1#1) h hu j = 1#1 ↔ ∀ i, h.drop i = j → x i = 1#1 := by
  rw [Host.reduce_eq_fold]
  show Finset.fold IntOp.andi 1#1 x _ = 1#1 ↔ _
  rw [all_bits]
  exact ⟨fun H i hi => H i (Finset.mem_filter.mpr ⟨Finset.mem_univ i, hi⟩), fun H i hi => H i (Finset.mem_filter.mp hi).2⟩

/-- The precondition, as numbers: every target, read unsigned, is below the number of classes. -/
theorem in_range {F : FTy → Type} [FloatOps F] (fe : S16384x128.Idx → F .f32) (tg : S16384.Idx → BitVec 32) (ce : S100000x128.Idx → F .f32)
    (h : Cert.Pre_target_names_rows.fn (F := F) fe tg ce = fun _ => 1#1) (j : S16384.Idx) : (tg j).toNat < 100000 := by
  have e := congrFun h (fun a => a.elim0)
  have e' := (reduce_bits _ _ _ _).mp e j (funext fun a => a.elim0)
  have e2 : IntOp.andi (IntOp.cmpi .sge (tg j) 0#32) (IntOp.cmpi .slt (tg j) (BitVec.ofNat 32 100000)) = 1#1 := e'
  rw [andi_sge_zero_slt_ofNat (by decide)] at e2
  by_contra hc
  rw [decide_eq_false hc] at e2
  exact absurd e2 (by decide)

end Cert.Proof.CenterLoss

end
-- ==== Proof.Reference.lean ====
/-
  What the reference reads: under the precondition the rows it takes of the class centers are the rows the targets name.
-/
module

public import proofs.«01_k».proof.Proof.Range
public import proofs.«01_k».proof.Proof.Gen.ReferenceIdeal.Run

@[expose] public section

noncomputable section

namespace Cert.Proof.CenterLoss

open Cert.ReferenceIdeal Cert.ReferenceIdeal.Gen
open Idealize.ShloMosaic Idealize.ShloMosaic.WordCmp

variable {F : FTy → Type} [FloatOps F]

/-- The targets with negative ones wrapped, as the reference's take wraps them. -/
abbrev wrapped (tg : S16384.Idx → BitVec 32) : S16384.Idx → BitVec 32 :=
  select (cmpi .slt tg (broadcastInDim S16384 ![] bcast_S_S16384 (constantI S_ 32 0#32)))
    (addi tg (broadcastInDim S16384 ![] bcast_S_S16384 (constantI S_ 32 100000#32))) tg

/-- A column of row numbers. -/
abbrev column (tg : S16384.Idx → BitVec 32) : S16384x1.Idx → BitVec 32 := broadcastInDim S16384x1 ![0] bcast_S16384_S16384x1_0 tg

/-- Which of a column's row numbers lie in the table. -/
abbrev inside (ix : S16384x1.Idx → BitVec 32) : S16384x1.Idx → BitVec 1 :=
  andi (cmpi .sge ix (broadcastInDim S16384x1 ![] bcast_S_S16384x1 (constantI S_ 32 0#32)))
    (cmpi .sle ix (broadcastInDim S16384x1 ![0, 1] bcast_S1x1_S16384x1_0_1 (broadcastInDim S1x1 ![1] bcast_S1_S1x1_1 (constantI S1 32 99999#32))))

/-- The rows the reference takes, those outside the table filled. -/
abbrev took (tg : S16384.Idx → BitVec 32) (ce : S100000x128.Idx → F .f32) : S16384x128.Idx → F .f32 :=
  select (broadcastInDim S16384x128 ![0] bcast_S16384_S16384x128_0
      (Host.reduce IntOp.andi (inside (column (wrapped tg))) (constantI S_ 1 1#1) reducesTo_S16384x1_S16384_d1 h_S_))
    (Host.gather gather_S100000x128_S16384x1_S16384x128_1_0_n_n_0_1_1128 ce (column (wrapped tg)))
    (broadcastInDim S16384x128 ![] bcast_S_S16384x128 (constant S_ .f32 0x7FC00000#32))

/-- The squares the reference sums. -/
abbrev squares (fe : S16384x128.Idx → F .f32) (tg : S16384.Idx → BitVec 32) (ce : S100000x128.Idx → F .f32) : S16384x128.Idx → F .f32 :=
  mulf (subf (took tg ce) fe) (subf (took tg ce) fe)

/-- The reference's loss. -/
abbrev refLoss (fe : S16384x128.Idx → F .f32) (tg : S16384.Idx → BitVec 32) (ce : S100000x128.Idx → F .f32) : S_.Idx → F .f32 :=
  Host.divf (Host.divf (mulf (constant S_ .f32 0x3F000000#32) (Host.reduceAdd (squares fe tg ce) (constant S_ .f32 0x00000000#32) reducesTo_S16384x128_S_d0_1 h_S_))
    (constant S_ .f32 0x40000000#32)) (constant S_ .f32 0x46800000#32)

/-- Targets in range are not wrapped. -/
theorem wrapped_eq (tg : S16384.Idx → BitVec 32) (h : ∀ j, (tg j).toNat < 100000) : wrapped tg = tg := by
  funext j
  show Scalar.select (IntOp.cmpi .slt (tg j) 0#32) (IntOp.addi (tg j) 100000#32) (tg j) = tg j
  rw [cmpi_slt_zero, decide_eq_false (by have := h j; omega)]
  rfl

/-- Row numbers in range lie in the table. -/
theorem inside_eq (tg : S16384.Idx → BitVec 32) (h : ∀ j, (tg j).toNat < 100000) (i : S16384x1.Idx) : inside (column tg) i = 1#1 := by
  show IntOp.andi (IntOp.cmpi .sge (column tg i) 0#32) (IntOp.cmpi .sle (column tg i) 99999#32) = 1#1
  have hc : (column tg i).toNat < 100000 := h _
  generalize column tg i = v at hc
  have hv : v.toInt = v.toNat := by rw [BitVec.toInt_eq_toNat_cond]; split <;> omega
  rw [both_bits]
  constructor
  · rw [cmpi_sge_zero, decide_eq_true (by omega)]; rfl
  · simp only [IntOp.cmpi, BitVec.sle, hv, show (99999#32 : BitVec 32).toInt = 99999 by decide]
    rw [decide_eq_true (by omega)]; rfl

/-- A column's entry is the row number at its row. -/
theorem column_at (tg : S16384.Idx → BitVec 32) (i : S16384x1.Idx) : column tg i = tg (ixT (i 0).val) := by
  refine congrArg tg (ixT_of _ ?_).symm
  rfl

/-- The gather reads, at row `r`, the table's row the column names at `r`. -/
theorem gather_at {α : Type} (ce : S100000x128.Idx → α) (ix : S16384x1.Idx → BitVec 32) (j : S16384x128.Idx) (n : ℕ) (hn : n < 100000)
    (hx : ∀ i : S16384x1.Idx, (i 0).val = (j 0).val → (ix i).toInt.toNat = n) :
    Host.gather gather_S100000x128_S16384x1_S16384x128_1_0_n_n_0_1_1128 ce ix j = ce (ixC n (j 1).val) := by
  unfold Host.gather
  refine congrArg ce (ixC_of _ ?_ ?_).symm
  · show GatherDims.start _ j ix 0 + GatherDims.batchCoord _ j 0 + GatherDims.offCoord _ j 0 = n
    rw [GatherDims.batchCoord_eq_zero _ _ _ (by exact List.not_mem_nil),
      GatherDims.offCoord_eq_zero _ _ _ (fun h => ((GatherDims.mem_sKept _ _).mp h).1 (List.mem_singleton.mpr rfl))]
    unfold GatherDims.start
    rw [dif_pos (show (0 : Fin 2) ∈ gather_S100000x128_S16384x1_S16384x128_1_0_n_n_0_1_1128.startIndexMap from List.mem_singleton.mpr rfl)]
    simp only [Nat.add_zero]
    rw [hx _ rfl]
    show min n (100000 - 1) = n
    omega
  · show GatherDims.start _ j ix 1 + GatherDims.batchCoord _ j 1 + GatherDims.offCoord _ j 1 = (j 1).val
    rw [GatherDims.batchCoord_eq_zero _ _ _ (by exact List.not_mem_nil)]
    unfold GatherDims.start
    rw [dif_neg (show (1 : Fin 2) ∉ gather_S100000x128_S16384x1_S16384x128_1_0_n_n_0_1_1128.startIndexMap from fun h => absurd (List.mem_singleton.mp h) (by decide))]
    simp only [Nat.zero_add, Nat.add_zero]
    unfold GatherDims.offCoord
    rw [dif_pos (by decide)]
    rfl

/-- Under the precondition the reference takes the rows the targets name. -/
theorem took_at (tg : S16384.Idx → BitVec 32) (ce : S100000x128.Idx → F .f32) (h : ∀ j, (tg j).toNat < 100000) (j : S16384x128.Idx) :
    took tg ce j = ce (ixC (row tg (j 0).val) (j 1).val) := by
  unfold took
  rw [wrapped_eq tg h]
  have hm : ∀ i, Host.reduce IntOp.andi (inside (column tg)) (constantI S_ 1 1#1) reducesTo_S16384x1_S16384_d1 h_S_ i = 1#1 :=
    fun i => (reduce_bits _ _ _ _).mpr fun i' _ => inside_eq tg h i'
  show Scalar.select (Host.reduce IntOp.andi (inside (column tg)) (constantI S_ 1 1#1) reducesTo_S16384x1_S16384_d1 h_S_ _) _ _ = _
  rw [hm]
  refine gather_at ce (column tg) j _ (h _) fun i hi => ?_
  rw [column_at, hi, BitVec.toInt_eq_toNat_cond]
  have := h (ixT (j 0).val)
  unfold row
  split <;> omega

end Cert.Proof.CenterLoss

end
-- ==== Proof.Sums.lean ====
/-
  On the extended reals the kernel's partial sums add up to the reference's one sum.
-/
module

public import proofs.«01_k».proof.Proof.Reference
public import Idealize.ShloMosaic.Lib.IdealHost
public import Idealize.ShloMosaic.Lib.Pointwise.Reduce

@[expose] public section

noncomputable section

namespace Cert.Proof.CenterLoss

open Idealize.ShloMosaic
open Idealize.ShloMosaic.ValueIdx (hostReduceAdd_apply)

/-! ## Sums over blocks -/

/-- A sum over `a` blocks of `b` is the sum over all of them. -/
theorem sum_blocks (b : ℕ) (g : ℕ → EReal) (a : ℕ) :
    (∑ w ∈ Finset.range a, ∑ i ∈ Finset.range b, g (b * w + i)) = ∑ n ∈ Finset.range (b * a), g n := by
  induction a with
  | zero => simp
  | succ a ih => rw [Finset.sum_range_succ, ih, Nat.mul_succ, Finset.sum_range_add]

/-- The kernel's order of summation, tiles then lanes then groups of columns then samples, against rows then columns. -/
theorem sum_tiles (q : ℕ → ℕ → EReal) :
    (∑ w ∈ Finset.range 32, ∑ l ∈ Finset.range 16, ∑ k ∈ Finset.range 8, ∑ i ∈ Finset.range 512, q (512 * w + i) (16 * k + l))
      = ∑ n ∈ Finset.range 16384, ∑ c ∈ Finset.range 128, q n c := by
  rw [← sum_blocks 512 (fun n => ∑ c ∈ Finset.range 128, q n c) 32]
  refine Finset.sum_congr rfl fun w _ => ?_
  calc (∑ l ∈ Finset.range 16, ∑ k ∈ Finset.range 8, ∑ i ∈ Finset.range 512, q (512 * w + i) (16 * k + l))
      = ∑ l ∈ Finset.range 16, ∑ i ∈ Finset.range 512, ∑ k ∈ Finset.range 8, q (512 * w + i) (16 * k + l) :=
        Finset.sum_congr rfl fun l _ => Finset.sum_comm
    _ = ∑ i ∈ Finset.range 512, ∑ l ∈ Finset.range 16, ∑ k ∈ Finset.range 8, q (512 * w + i) (16 * k + l) := Finset.sum_comm
    _ = ∑ i ∈ Finset.range 512, ∑ c ∈ Finset.range 128, q (512 * w + i) c :=
        Finset.sum_congr rfl fun i _ => Finset.sum_comm.trans (sum_blocks 16 (fun c => q (512 * w + i) c) 8)

/-! ## The kernel's sums -/

section Kernel

open Cert.KernelIdeal Cert.KernelIdeal.Gen

variable (fe : S16384x128.Idx → EReal) (tg : S16384.Idx → BitVec 32) (ce : S100000x128.Idx → EReal)

/-- The squared difference at sample `n` and column `c`. -/
def sq (n c : ℕ) : EReal := (ce (ixC (row tg n) c) - fe (ixF n c)) * (ce (ixC (row tg n) c) - fe (ixF n c))

/-- An accumulator's lane is the sum of the squared differences it has met. -/
theorem acc_at (b k n : ℕ) (l : S16.Idx) :
    acc (F := Ideal) fe tg ce b k n l = ∑ i ∈ Finset.range n, sq fe tg ce (b + i) (16 * k + (l 0).val) := by
  induction n with
  | zero => exact Ideal.ofBits_zero_f32
  | succ n ih =>
    rw [Finset.sum_range_succ, ← ih]
    rfl

/-- A tile's partial sum at a lane: over the eight groups of columns, over its samples. -/
theorem part_at (b : ℕ) (l : S16.Idx) :
    part (F := Ideal) fe tg ce b l = ∑ k ∈ Finset.range 8, ∑ i ∈ Finset.range 512, sq fe tg ce (b + i) (16 * k + (l 0).val) := by
  simp only [← acc_at]
  simp only [Finset.sum_range_succ, Finset.sum_range_zero, zero_add]
  unfold part k0_pay9
  simp only [shapeCast_self]
  rfl

/-- All the partial sums together are the sum of all the squared differences. -/
theorem out_sum :
    (∑ w : Fin 32, ∑ l : Fin 16, outB (F := Ideal) fe tg ce (Idealize.ShloMosaic.ix2 w l))
      = ∑ n ∈ Finset.range 16384, ∑ c ∈ Finset.range 128, sq fe tg ce n c := by
  rw [← sum_tiles, Finset.sum_range]
  refine Finset.sum_congr rfl fun w _ => ?_
  rw [Finset.sum_range]
  refine Finset.sum_congr rfl fun l _ => ?_
  refine (part_at fe tg ce _ _).trans ?_
  have e : (ix1 S16 posL l.val 0).val = l.val := Nat.mod_eq_of_lt l.isLt
  show (∑ k ∈ Finset.range 8, ∑ i ∈ Finset.range 512, sq fe tg ce (512 * w.val + i) (16 * k + (ix1 S16 posL l.val 0).val)) = _
  rw [e]

end Kernel

/-! ## The two losses -/

section Loss

open Cert.ReferenceIdeal Cert.ReferenceIdeal.Gen

variable (fe : S16384x128.Idx → EReal) (tg : S16384.Idx → BitVec 32) (ce : S100000x128.Idx → EReal)

/-- The reference's squares, under the precondition. -/
theorem squares_at (h : ∀ j, (tg j).toNat < 100000) (j : S16384x128.Idx) :
    squares (F := Ideal) fe tg ce j = sq fe tg ce (j 0).val (j 1).val := by
  have e : took (F := Ideal) tg ce j = ce (ixC (row tg (j 0).val) (j 1).val) := took_at (F := Ideal) tg ce h j
  show (took (F := Ideal) tg ce j - fe j) * (took (F := Ideal) tg ce j - fe j) = _
  rw [e]
  unfold sq
  rw [ixF_of j rfl rfl]

/-- The reference's squares together. -/
theorem squares_sum (h : ∀ j, (tg j).toNat < 100000) :
    (∑ n : Fin 16384, ∑ c : Fin 128, squares (F := Ideal) fe tg ce (Idealize.ShloMosaic.ix2 n c))
      = ∑ n ∈ Finset.range 16384, ∑ c ∈ Finset.range 128, sq fe tg ce n c := by
  rw [Finset.sum_range]
  refine Finset.sum_congr rfl fun n _ => ?_
  rw [Finset.sum_range]
  exact Finset.sum_congr rfl fun c _ => squares_at fe tg ce h (Idealize.ShloMosaic.ix2 n c)

/-- The kernel's sum of its partial sums is the reference's sum of squares. -/
theorem sums_agree (h : ∀ j, (tg j).toNat < 100000) :
    (Host.reduceAdd (F := Ideal) (outB (F := Ideal) fe tg ce) (constant S_ .f32 0x00000000#32) Cert.KernelIdeal.Gen.facts.reducesTo_S32x16_S_d0_1 Cert.KernelIdeal.Gen.facts.h_S_ : S_.Idx → EReal)
      = Host.reduceAdd (F := Ideal) (squares (F := Ideal) fe tg ce) (constant S_ .f32 0x00000000#32) reducesTo_S16384x128_S_d0_1 h_S_ := by
  funext j
  rw [hostReduceAdd_apply, hostReduceAdd_apply, Ideal.hostReduceAdd_r2_a01, Ideal.hostReduceAdd_r2_a01, out_sum, squares_sum fe tg ce h]

end Loss

end Cert.Proof.CenterLoss

end
-- ==== Proof.lean ====
/-
  The center-loss kernel's certificate: the frames of the kernel, of its idealization and of the reference, the
  idealization's being the kernel's own text, and the two losses equal on the extended reals. The kernel's run is
  Proof/Main.lean's `run_main`, for any float semantics; what the precondition says of the targets is Proof/Range.lean's
  `in_range`; the reference's loss is Proof/Reference.lean's `refLoss`, and Proof/Sums.lean shows its sum the kernel's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_target_names_rows
public import proofs.«01_k».proof.Proof.Main
public import proofs.«01_k».proof.Proof.Sums
public import Idealize.ShloMosaic.Adequacy
public import Idealize.ShloMosaic.Init
public import Idealize.ShloMosaic.Lib.Quiescent

@[expose] public section

noncomputable section

namespace Cert.Proof

open Idealize.ShloMosaic Idealize.SL.Sem
open Cert.Proof.CenterLoss

/-- The kernel, on machine floats: it runs, leaves its arguments unchanged and every semaphore counter at zero. -/
theorem frame_kernel : Cert.quiescent_Kernel := fun m ρ hp =>
  (θ_run Cert.KernelIdeal.defs _ _).mono (fun _ h => ⟨fun c => ⟨(h.1 c).1, (h.1 c).2.1, (h.1 c).2.2.1⟩, h.2⟩)
    (run_main (F := Bits) m ρ fun d j => in_range (F := Bits) _ _ _ (hp d) j)

/-- The same of the kernel on the extended reals. -/
theorem frame_ideal : Cert.quiescent_KernelIdeal := fun m ρ hp =>
  (θ_run Cert.KernelIdeal.defs _ _).mono (fun _ h => ⟨fun c => ⟨(h.1 c).1, (h.1 c).2.1, (h.1 c).2.2.1⟩, h.2⟩)
    (run_main (F := Ideal) m ρ fun d j => in_range (F := Ideal) _ _ _ (hp d) j)

/-- The reference runs and leaves its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals the kernel's loss is the reference's loss of the same arguments, targets in range. -/
theorem loss_agree (m : (ℓ : Loc Cert.KernelIdeal.nD Cert.KernelIdeal.τ Cert.KernelIdeal.sig) → Buf (Elt Ideal) ℓ) (hp : PreOK (F := Ideal) m)
    (d : Dev Cert.KernelIdeal.nD) : Rv (F := Ideal) m d = refLoss (F := Ideal) (m (fLoc d)) (m (tLoc d)) (m (cLoc d)) := by
  unfold Rv refLoss outOf
  have e := sums_agree (m (fLoc d)) (m (tLoc d)) (m (cLoc d)) (hp d)
  exact congrArg (fun x => Host.divf (F := Ideal) (Host.divf (F := Ideal) (mulf (F := Ideal) (constant Cert.ReferenceIdeal.S_ .f32 0x3F000000#32) x)
    (constant Cert.ReferenceIdeal.S_ .f32 0x40000000#32)) (constant Cert.ReferenceIdeal.S_ .f32 0x46800000#32)) e

/-- On the extended reals the kernel and the reference end with the same loss. -/
theorem algebraic : Cert.algebraic_KernelIdeal_ReferenceIdeal := by
  intro m ρ m' ρ' hp hargs
  have hok : PreOK (F := Ideal) m := fun d j => in_range (F := Ideal) _ _ _ (hp d) j
  refine ⟨fun c => Rv (F := Ideal) m c, ?_, ?_⟩
  · exact (θ_run Cert.KernelIdeal.defs _ _).mono (fun _ h c => ⟨(h.1 c).2.2.2, (h.1 c).1, (h.1 c).2.1, (h.1 c).2.2.1⟩)
      (run_main (F := Ideal) m ρ hok)
  · refine (θ_run Cert.ReferenceIdeal.defs _ _).mono (fun _ h c => ⟨(h c).1.trans ?_, (h c).2⟩)
      (Cert.ReferenceIdeal.Value.run (F := Ideal) m' ρ')
    obtain ⟨h0, h1, h2⟩ := hargs c
    rw [h0, h1, h2]
    exact (loss_agree m hok c).symm

/-- Everything claimed. -/
theorem claim : Cert.Claim := ⟨Cert.Kernel.Gen.facts, Cert.KernelIdeal.Gen.facts, Cert.ReferenceIdeal.Gen.facts, Cert.Pre_target_names_rows.Gen.facts,
  frame_kernel, frame_ideal, frame_reference, fun m ρ _ => frame_reference m ρ trivial, trivial, algebraic⟩

end Cert.Proof

end
